-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_range : Cert.Pre_idx_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal) (hPre_idx_in_range := hPre_idx_in_range)
    ∧ preserves_Kernel_KernelIdeal
    ∧ algebraic_KernelIdeal_ReferenceIdeal (hKernelIdeal := hKernelIdeal) (hReferenceIdeal := hReferenceIdeal) (hPre_idx_in_range := hPre_idx_in_range)
-- ==== Pre_idx_in_range.lean ====
abbrev S8x192x224x224 : Shape := ⟨4, ![8, 192, 224, 224]⟩
abbrev S50176 : Shape := ⟨1, ![50176]⟩
abbrev S_ : Shape := ⟨0, ![]⟩

class Facts : Prop where
  bcast_S_S50176 : S_.BroadcastsInDim S50176 (![] : Fin 0 → Fin S50176.rank)
  reducesTo_S50176_S_d0 : S50176.ReducesTo [0] S_
  h_S_ : 0 < S_.numel

variable [Facts]

def fn {F : FTy → Type} [FloatOps F] (main_arg0 : FVec F S8x192x224x224 .f32) (main_arg1 : IVec S50176 32) : IVec S_ 1 :=
  let main_c : IVec S_ 32 := constantI S_ 32 0#32
  let main_v0 : IVec S50176 32 := broadcastInDim S50176 ![] bcast_S_S50176 main_c
  let main_v1 : IVec S50176 1 := cmpi .sge main_arg1 main_v0
  let main_c_0 : IVec S_ 32 := constantI S_ 32 50176#32
  let main_v2 : IVec S50176 32 := broadcastInDim S50176 ![] bcast_S_S50176 main_c_0
  let main_v3 : IVec S50176 1 := cmpi .slt main_arg1 main_v2
  let main_v4 : IVec S50176 1 := andi main_v1 main_v3
  let main_c_1 : IVec S_ 1 := constantI S_ 1 1#1
  let main_v5 : IVec S_ 1 := (fun x v => Host.reduce IntOp.andi x v reducesTo_S50176_S_d0 h_S_) main_v4 main_c_1
  main_v5
-- ==== Kernel.lean ====
abbrev S8x192x224x224 : Shape := ⟨4, ![8, 192, 224, 224]⟩
abbrev S50176 : Shape := ⟨1, ![50176]⟩
abbrev S1536x224x224 : Shape := ⟨3, ![1536, 224, 224]⟩
abbrev S_ : Shape := ⟨0, ![]⟩
abbrev S1568x2x16 : Shape := ⟨3, ![1568, 2, 16]⟩
abbrev S1568x1x16 : Shape := ⟨3, ![1568, 1, 16]⟩
abbrev S1568x16 : Shape := ⟨2, ![1568, 16]⟩
abbrev S25088 : Shape := ⟨1, ![25088]⟩
abbrev S224x224 : Shape := ⟨2, ![224, 224]⟩
abbrev S4x16x224 : Shape := ⟨3, ![4, 16, 224]⟩
abbrev S4 : Shape := ⟨1, ![4]⟩
abbrev S1x224x224 : Shape := ⟨3, ![1, 224, 224]⟩
abbrev S16 : Shape := ⟨1, ![16]⟩
abbrev S1x1x16 : Shape := ⟨3, ![1, 1, 16]⟩
abbrev S1x16x224 : Shape := ⟨3, ![1, 16, 224]⟩
abbrev S16x224 : Shape := ⟨2, ![16, 224]⟩
abbrev S1 : Shape := ⟨1, ![1]⟩

abbrev nBuf : Table → Nat
  | .hbm => 59
  | .local .scVector .vmem => 3
  | _ => 0

abbrev bufTy : (tb : Table) → Fin (nBuf tb) → BufTy
  | .hbm, ⟨0, _⟩ => ⟨S8x192x224x224, .f32⟩
  | .hbm, ⟨1, _⟩ => ⟨S50176, .i32⟩
  | .hbm, ⟨2, _⟩ => ⟨S1536x224x224, .f32⟩
  | .hbm, ⟨3, _⟩ => ⟨S_, .i32⟩
  | .hbm, ⟨4, _⟩ => ⟨S_, .i32⟩
  | .hbm, ⟨5, _⟩ => ⟨S50176, .i32⟩
  | .hbm, ⟨6, _⟩ => ⟨S50176, .i32⟩
  | .hbm, ⟨7, _⟩ => ⟨S50176, .i32⟩
  | .hbm, ⟨8, _⟩ => ⟨S_, .i32⟩
  | .hbm, ⟨9, _⟩ => ⟨S50176, .i32⟩
  | .hbm, ⟨10, _⟩ => ⟨S50176, .i1⟩
  | .hbm, ⟨11, _⟩ => ⟨S50176, .i32⟩
  | .hbm, ⟨12, _⟩ => ⟨S50176, .i32⟩
  | .hbm, ⟨13, _⟩ => ⟨S_, .i32⟩
  | .hbm, ⟨14, _⟩ => ⟨S50176, .i32⟩
  | .hbm, ⟨15, _⟩ => ⟨S50176, .i1⟩
  | .hbm, ⟨16, _⟩ => ⟨S50176, .i1⟩
  | .hbm, ⟨17, _⟩ => ⟨S_, .i32⟩
  | .hbm, ⟨18, _⟩ => ⟨S50176, .i32⟩
  | .hbm, ⟨19, _⟩ => ⟨S50176, .i32⟩
  | .hbm, ⟨20, _⟩ => ⟨S50176, .i32⟩
  | .hbm, ⟨21, _⟩ => ⟨S_, .i32⟩
  | .hbm, ⟨22, _⟩ => ⟨S50176, .i32⟩
  | .hbm, ⟨23, _⟩ => ⟨S50176, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S50176, .i32⟩
  | .hbm, ⟨31, _⟩ => ⟨S50176, .i32⟩
  | .hbm, ⟨32, _⟩ => ⟨S_, .i32⟩
  | .hbm, ⟨33, _⟩ => ⟨S50176, .i32⟩
  | .hbm, ⟨34, _⟩ => ⟨S50176, .i1⟩
  | .hbm, ⟨35, _⟩ => ⟨S_, .i32⟩
  | .hbm, ⟨36, _⟩ => ⟨S50176, .i32⟩
  | .hbm, ⟨37, _⟩ => ⟨S50176, .i1⟩
  | .hbm, ⟨38, _⟩ => ⟨S_, .i32⟩
  | .hbm, ⟨39, _⟩ => ⟨S_, .i1⟩
  | .hbm, ⟨40, _⟩ => ⟨S50176, .i1⟩
  | .hbm, ⟨41, _⟩ => ⟨S50176, .i1⟩
  | .hbm, ⟨42, _⟩ => ⟨S50176, .i1⟩
  | .hbm, ⟨43, _⟩ => ⟨S50176, .i32⟩
  | .hbm, ⟨44, _⟩ => ⟨S50176, .i32⟩
  | .hbm, ⟨45, _⟩ => ⟨S50176, .i32⟩
  | .hbm, ⟨46, _⟩ => ⟨S50176, .i32⟩
  | .hbm, ⟨47, _⟩ => ⟨S1568x2x16, .i32⟩
  | .hbm, ⟨48, _⟩ => ⟨S1568x1x16, .i32⟩
  | .hbm, ⟨49, _⟩ => ⟨S1568x16, .i32⟩
  | .hbm, ⟨50, _⟩ => ⟨S1568x1x16, .i32⟩
  | .hbm, ⟨51, _⟩ => ⟨S1568x16, .i32⟩
  | .hbm, ⟨52, _⟩ => ⟨S_, .i32⟩
  | .hbm, ⟨53, _⟩ => ⟨S1568x16, .i32⟩
  | .hbm, ⟨54, _⟩ => ⟨S1568x16, .i32⟩
  | .hbm, ⟨55, _⟩ => ⟨S1568x16, .i32⟩
  | .hbm, ⟨56, _⟩ => ⟨S25088, .i32⟩
  | .hbm, ⟨57, _⟩ => ⟨S1536x224x224, .f32⟩
  | .hbm, ⟨58, _⟩ => ⟨S8x192x224x224, .f32⟩
  | .local .scVector .vmem, ⟨0, _⟩ => ⟨S25088, .i32⟩
  | .local .scVector .vmem, ⟨1, _⟩ => ⟨S224x224, .f32⟩
  | .local .scVector .vmem, ⟨2, _⟩ => ⟨S4x16x224, .f32⟩
  | _, _ => ⟨S8x192x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_c_1 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_c_2 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v0_scv : Ref sig .scVector := ⟨.hbm, 2, rfl⟩
abbrev main_v14_scv : Ref sig .scVector := ⟨.hbm, 56, rfl⟩
abbrev main_v15_scv : Ref sig .scVector := ⟨.hbm, 57, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c48_i32_0 : BitVec 32 := 48#32
  let v3 : BitVec 32 := Scalar.addi c0_i32 c48_i32_0
  let c1_i32 : BitVec 32 := 1#32
  ⟨c0_i32, v3, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c0_i32_4 : BitVec 32 := 0#32
  let c0_i32_5 : BitVec 32 := 0#32
  ![v6.toNat, 0, 0]
@[reducible] def k0_t2_loop : Scf.Loop 32 :=
  let c0_i32_12 : BitVec 32 := 0#32
  let c8_i32 : BitVec 32 := 8#32
  let v15 : BitVec 32 := Scalar.addi c0_i32_12 c8_i32
  let c1_i32_13 : BitVec 32 := 1#32
  ⟨c0_i32_12, v15, c1_i32_13⟩
@[reducible] def k0_t3_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off2 (k0_t2 : Fin k0_t2_loop.trips) (k0_t3 : Fin k0_t3_loop.trips) : Fin 1 → Nat :=
  let c0_i32_343 : BitVec 32 := 0#32
  let c0_i32_335 : BitVec 32 := 0#32
  let c0_i32_12 : BitVec 32 := 0#32
  let c1_i32_13 : BitVec 32 := 1#32
  let arg11 : BitVec 32 := Scf.iv c0_i32_12 c1_i32_13 k0_t2
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c0_i32_343 v315
  let c0_i32_340 : BitVec 32 := 0#32
  let c0_i32_336 : BitVec 32 := 0#32
  let c1_i32_337 : BitVec 32 := 1#32
  let arg12 : BitVec 32 := Scf.iv c0_i32_336 c1_i32_337 k0_t3
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk1 (v325 : IVec S16 32) (v327 : IVec S16 32) : Prop :=
  (∀ a x, ((![v325, v327] : Fin 2 → IVec S16 32) a x).toNat < S224x224.size a)
theorem k0_idx1_inb : ∀ (v325 : IVec S16 32) (v327 : IVec S16 32) (k0_hw1 : k0_chk1 v325 v327), ∀ a x, ((![v325, v327] : Fin 2 → IVec S16 32) a x).toNat < S224x224.size a := fun v325 v327 k0_hw1 => k0_hw1
def k0_off3 (k0_t2 : Fin k0_t2_loop.trips) (k0_t3 : Fin k0_t3_loop.trips) : Fin 3 → Nat :=
  let c0_i32_348 : BitVec 32 := 0#32
  let v331 : Index := Scalar.indexCast c0_i32_348
  let c0_i32_335 : BitVec 32 := 0#32
  let c0_i32_12 : BitVec 32 := 0#32
  let c1_i32_13 : BitVec 32 := 1#32
  let arg11 : BitVec 32 := Scf.iv c0_i32_12 c1_i32_13 k0_t2
  let c2_i32_334 : BitVec 32 := 2#32
  let v309 : BitVec 32 := Scalar.muli arg11 c2_i32_334
  let v310 : BitVec 32 := Scalar.addi c0_i32_335 v309
  let c0_i32_346 : BitVec 32 := 0#32
  let v329 : BitVec 32 := Scalar.addi v310 c0_i32_346
  let v332 : Index := Scalar.indexCast v329
  let c2_i32_347 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t3
  let c16_i32_339 : BitVec 32 := 16#32
  let v312 : BitVec 32 := Scalar.muli arg12 c16_i32_339
  let v313 : BitVec 32 := Scalar.addi c0_i32_340 v312
  let v330 : BitVec 32 := Scalar.muli c2_i32_347 v313
  let v333 : Index := Scalar.indexCast v330
  ![0, v332.toNat, v333.toNat]

def k0_chk2 (v336 : IVec S16 32) (v338 : IVec S16 32) : Prop :=
  (∀ a x, ((![v336, v338] : Fin 2 → IVec S16 32) a x).toNat < S224x224.size a)
theorem k0_idx2_inb : ∀ (v336 : IVec S16 32) (v338 : IVec S16 32) (k0_hw2 : k0_chk2 v336 v338), ∀ a x, ((![v336, v338] : Fin 2 → IVec S16 32) a x).toNat < S224x224.size a := fun v336 v338 k0_hw2 => k0_hw2
def k0_off4 (k0_t2 : Fin k0_t2_loop.trips) (k0_t3 : Fin k0_t3_loop.trips) : Fin 3 → Nat :=
  let c0_i32_354 : BitVec 32 := 0#32
  let v343 : Index := Scalar.indexCast c0_i32_354
  let c0_i32_335 : BitVec 32 := 0#32
  let c0_i32_12 : BitVec 32 := 0#32
  let c1_i32_13 : BitVec 32 := 1#32
  let arg11 : BitVec 32 := Scf.iv c0_i32_12 c1_i32_13 k0_t2
  let c2_i32_334 : BitVec 32 := 2#32
  let v309 : BitVec 32 := Scalar.muli arg11 c2_i32_334
  let v310 : BitVec 32 := Scalar.addi c0_i32_335 v309
  let c0_i32_351 : BitVec 32 := 0#32
  let v340 : BitVec 32 := Scalar.addi v310 c0_i32_351
  let v344 : Index := Scalar.indexCast v340
  let c2_i32_352 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t3
  let c16_i32_339 : BitVec 32 := 16#32
  let v312 : BitVec 32 := Scalar.muli arg12 c16_i32_339
  let v313 : BitVec 32 := Scalar.addi c0_i32_340 v312
  let v341 : BitVec 32 := Scalar.muli c2_i32_352 v313
  let c16_i32_353 : BitVec 32 := 16#32
  let v342 : BitVec 32 := Scalar.addi v341 c16_i32_353
  let v345 : Index := Scalar.indexCast v342
  ![0, v344.toNat, v345.toNat]
def k0_off5 (k0_t2 : Fin k0_t2_loop.trips) (k0_t3 : Fin k0_t3_loop.trips) : Fin 1 → Nat :=
  let c0_i32_357 : BitVec 32 := 0#32
  let c0_i32_335 : BitVec 32 := 0#32
  let c0_i32_12 : BitVec 32 := 0#32
  let c1_i32_13 : BitVec 32 := 1#32
  let arg11 : BitVec 32 := Scf.iv c0_i32_12 c1_i32_13 k0_t2
  let c2_i32_334 : BitVec 32 := 2#32
  let v309 : BitVec 32 := Scalar.muli arg11 c2_i32_334
  let v310 : BitVec 32 := Scalar.addi c0_i32_335 v309
  let c1_i32_355 : BitVec 32 := 1#32
  let v347 : BitVec 32 := Scalar.addi v310 c1_i32_355
  let c112_i32_356 : BitVec 32 := 112#32
  let v348 : BitVec 32 := Scalar.muli v347 c112_i32_356
  let v349 : BitVec 32 := Scalar.addi c0_i32_357 v348
  let c0_i32_340 : BitVec 32 := 0#32
  let c0_i32_336 : BitVec 32 := 0#32
  let c1_i32_337 : BitVec 32 := 1#32
  let arg12 : BitVec 32 := Scf.iv c0_i32_336 c1_i32_337 k0_t3
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk3 (v358 : IVec S16 32) (v360 : IVec S16 32) : Prop :=
  (∀ a x, ((![v358, v360] : Fin 2 → IVec S16 32) a x).toNat < S224x224.size a)
theorem k0_idx3_inb : ∀ (v358 : IVec S16 32) (v360 : IVec S16 32) (k0_hw3 : k0_chk3 v358 v360), ∀ a x, ((![v358, v360] : Fin 2 → IVec S16 32) a x).toNat < S224x224.size a := fun v358 v360 k0_hw3 => k0_hw3
def k0_off6 (k0_t2 : Fin k0_t2_loop.trips) (k0_t3 : Fin k0_t3_loop.trips) : Fin 3 → Nat :=
  let c0_i32_364 : BitVec 32 := 0#32
  let v364 : Index := Scalar.indexCast c0_i32_364
  let c0_i32_335 : BitVec 32 := 0#32
  let c0_i32_12 : BitVec 32 := 0#32
  let c1_i32_13 : BitVec 32 := 1#32
  let arg11 : BitVec 32 := Scf.iv c0_i32_12 c1_i32_13 k0_t2
  let c2_i32_334 : BitVec 32 := 2#32
  let v309 : BitVec 32 := Scalar.muli arg11 c2_i32_334
  let v310 : BitVec 32 := Scalar.addi c0_i32_335 v309
  let c1_i32_362 : BitVec 32 := 1#32
  let v362 : BitVec 32 := Scalar.addi v310 c1_i32_362
  let v365 : Index := Scalar.indexCast v362
  let c2_i32_363 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t3
  let c16_i32_339 : BitVec 32 := 16#32
  let v312 : BitVec 32 := Scalar.muli arg12 c16_i32_339
  let v313 : BitVec 32 := Scalar.addi c0_i32_340 v312
  let v363 : BitVec 32 := Scalar.muli c2_i32_363 v313
  let v366 : Index := Scalar.indexCast v363
  ![0, v365.toNat, v366.toNat]

def k0_chk4 (v369 : IVec S16 32) (v371 : IVec S16 32) : Prop :=
  (∀ a x, ((![v369, v371] : Fin 2 → IVec S16 32) a x).toNat < S224x224.size a)
theorem k0_idx4_inb : ∀ (v369 : IVec S16 32) (v371 : IVec S16 32) (k0_hw4 : k0_chk4 v369 v371), ∀ a x, ((![v369, v371] : Fin 2 → IVec S16 32) a x).toNat < S224x224.size a := fun v369 v371 k0_hw4 => k0_hw4
def k0_off7 (k0_t2 : Fin k0_t2_loop.trips) (k0_t3 : Fin k0_t3_loop.trips) : Fin 3 → Nat :=
  let c0_i32_370 : BitVec 32 := 0#32
  let v376 : Index := Scalar.indexCast c0_i32_370
  let c0_i32_335 : BitVec 32 := 0#32
  let c0_i32_12 : BitVec 32 := 0#32
  let c1_i32_13 : BitVec 32 := 1#32
  let arg11 : BitVec 32 := Scf.iv c0_i32_12 c1_i32_13 k0_t2
  let c2_i32_334 : BitVec 32 := 2#32
  let v309 : BitVec 32 := Scalar.muli arg11 c2_i32_334
  let v310 : BitVec 32 := Scalar.addi c0_i32_335 v309
  let c1_i32_367 : BitVec 32 := 1#32
  let v373 : BitVec 32 := Scalar.addi v310 c1_i32_367
  let v377 : Index := Scalar.indexCast v373
  let c2_i32_368 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t3
  let c16_i32_339 : BitVec 32 := 16#32
  let v312 : BitVec 32 := Scalar.muli arg12 c16_i32_339
  let v313 : BitVec 32 := Scalar.addi c0_i32_340 v312
  let v374 : BitVec 32 := Scalar.muli c2_i32_368 v313
  let c16_i32_369 : BitVec 32 := 16#32
  let v375 : BitVec 32 := Scalar.addi v374 c16_i32_369
  let v378 : Index := Scalar.indexCast v375
  ![0, v377.toNat, v378.toNat]
def k0_off8 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c0_i32_19 : BitVec 32 := 0#32
  let c0_i32_20 : BitVec 32 := 0#32
  ![v6.toNat, 0, 0]
@[reducible] def k0_t4_loop : Scf.Loop 32 :=
  let c0_i32_25 : BitVec 32 := 0#32
  let c8_i32_26 : BitVec 32 := 8#32
  let v26 : BitVec 32 := Scalar.addi c0_i32_25 c8_i32_26
  let c1_i32_27 : BitVec 32 := 1#32
  ⟨c0_i32_25, v26, c1_i32_27⟩
@[reducible] def k0_t5_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off9 (k0_t4 : Fin k0_t4_loop.trips) (k0_t5 : Fin k0_t5_loop.trips) : Fin 1 → Nat :=
  let c1792_i32 : BitVec 32 := 1792#32
  let c0_i32_335 : BitVec 32 := 0#32
  let c0_i32_25 : BitVec 32 := 0#32
  let c1_i32_27 : BitVec 32 := 1#32
  let arg11 : BitVec 32 := Scf.iv c0_i32_25 c1_i32_27 k0_t4
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c1792_i32 v315
  let c0_i32_340 : BitVec 32 := 0#32
  let c0_i32_336 : BitVec 32 := 0#32
  let c1_i32_337 : BitVec 32 := 1#32
  let arg12 : BitVec 32 := Scf.iv c0_i32_336 c1_i32_337 k0_t5
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk5 (v325 : IVec S16 32) (v327 : IVec S16 32) : Prop :=
  (∀ a x, ((![v325, v327] : Fin 2 → IVec S16 32) a x).toNat < S224x224.size a)
theorem k0_idx5_inb : ∀ (v325 : IVec S16 32) (v327 : IVec S16 32) (k0_hw5 : k0_chk5 v325 v327), ∀ a x, ((![v325, v327] : Fin 2 → IVec S16 32) a x).toNat < S224x224.size a := fun v325 v327 k0_hw5 => k0_hw5
def k0_off10 (k0_t4 : Fin k0_t4_loop.trips) (k0_t5 : Fin k0_t5_loop.trips) : Fin 3 → Nat :=
  let c1_i32_347 : BitVec 32 := 1#32
  let v331 : Index := Scalar.indexCast c1_i32_347
  let c0_i32_335 : BitVec 32 := 0#32
  let c0_i32_25 : BitVec 32 := 0#32
  let c1_i32_27 : BitVec 32 := 1#32
  let arg11 : BitVec 32 := Scf.iv c0_i32_25 c1_i32_27 k0_t4
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t5
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![1, v332.toNat, v333.toNat]

def k0_chk6 (v336 : IVec S16 32) (v338 : IVec S16 32) : Prop :=
  (∀ a x, ((![v336, v338] : Fin 2 → IVec S16 32) a x).toNat < S224x224.size a)
theorem k0_idx6_inb : ∀ (v336 : IVec S16 32) (v338 : IVec S16 32) (k0_hw6 : k0_chk6 v336 v338), ∀ a x, ((![v336, v338] : Fin 2 → IVec S16 32) a x).toNat < S224x224.size a := fun v336 v338 k0_hw6 => k0_hw6
def k0_off11 (k0_t4 : Fin k0_t4_loop.trips) (k0_t5 : Fin k0_t5_loop.trips) : Fin 3 → Nat :=
  let c1_i32_353 : BitVec 32 := 1#32
  let v343 : Index := Scalar.indexCast c1_i32_353
  let c0_i32_335 : BitVec 32 := 0#32
  let c0_i32_25 : BitVec 32 := 0#32
  let c1_i32_27 : BitVec 32 := 1#32
  let arg11 : BitVec 32 := Scf.iv c0_i32_25 c1_i32_27 k0_t4
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t5
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![1, v344.toNat, v345.toNat]
def k0_off12 (k0_t4 : Fin k0_t4_loop.trips) (k0_t5 : Fin k0_t5_loop.trips) : Fin 1 → Nat :=
  let c1792_i32_356 : BitVec 32 := 1792#32
  let c0_i32_335 : BitVec 32 := 0#32
  let c0_i32_25 : BitVec 32 := 0#32
  let c1_i32_27 : BitVec 32 := 1#32
  let arg11 : BitVec 32 := Scf.iv c0_i32_25 c1_i32_27 k0_t4
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c1792_i32_356 v348
  let c0_i32_340 : BitVec 32 := 0#32
  let c0_i32_336 : BitVec 32 := 0#32
  let c1_i32_337 : BitVec 32 := 1#32
  let arg12 : BitVec 32 := Scf.iv c0_i32_336 c1_i32_337 k0_t5
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk7 (v358 : IVec S16 32) (v360 : IVec S16 32) : Prop :=
  (∀ a x, ((![v358, v360] : Fin 2 → IVec S16 32) a x).toNat < S224x224.size a)
theorem k0_idx7_inb : ∀ (v358 : IVec S16 32) (v360 : IVec S16 32) (k0_hw7 : k0_chk7 v358 v360), ∀ a x, ((![v358, v360] : Fin 2 → IVec S16 32) a x).toNat < S224x224.size a := fun v358 v360 k0_hw7 => k0_hw7
def k0_off13 (k0_t4 : Fin k0_t4_loop.trips) (k0_t5 : Fin k0_t5_loop.trips) : Fin 3 → Nat :=
  let c1_i32_363 : BitVec 32 := 1#32
  let v364 : Index := Scalar.indexCast c1_i32_363
  let c0_i32_335 : BitVec 32 := 0#32
  let c0_i32_25 : BitVec 32 := 0#32
  let c1_i32_27 : BitVec 32 := 1#32
  let arg11 : BitVec 32 := Scf.iv c0_i32_25 c1_i32_27 k0_t4
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t5
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![1, v365.toNat, v366.toNat]

def k0_chk8 (v369 : IVec S16 32) (v371 : IVec S16 32) : Prop :=
  (∀ a x, ((![v369, v371] : Fin 2 → IVec S16 32) a x).toNat < S224x224.size a)
theorem k0_idx8_inb : ∀ (v369 : IVec S16 32) (v371 : IVec S16 32) (k0_hw8 : k0_chk8 v369 v371), ∀ a x, ((![v369, v371] : Fin 2 → IVec S16 32) a x).toNat < S224x224.size a := fun v369 v371 k0_hw8 => k0_hw8
def k0_off14 (k0_t4 : Fin k0_t4_loop.trips) (k0_t5 : Fin k0_t5_loop.trips) : Fin 3 → Nat :=
  let c1_i32_369 : BitVec 32 := 1#32
  let v376 : Index := Scalar.indexCast c1_i32_369
  let c0_i32_335 : BitVec 32 := 0#32
  let c0_i32_25 : BitVec 32 := 0#32
  let c1_i32_27 : BitVec 32 := 1#32
  let arg11 : BitVec 32 := Scf.iv c0_i32_25 c1_i32_27 k0_t4
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t5
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![1, v377.toNat, v378.toNat]
def k0_off15 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c16_i32 : BitVec 32 := 16#32
  let c0_i32_33 : BitVec 32 := 0#32
  ![v6.toNat, 16, 0]
@[reducible] def k0_t6_loop : Scf.Loop 32 :=
  let c0_i32_38 : BitVec 32 := 0#32
  let c8_i32_39 : BitVec 32 := 8#32
  let v37 : BitVec 32 := Scalar.addi c0_i32_38 c8_i32_39
  let c1_i32_40 : BitVec 32 := 1#32
  ⟨c0_i32_38, v37, c1_i32_40⟩
@[reducible] def k0_t7_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off16 (k0_t6 : Fin k0_t6_loop.trips) (k0_t7 : Fin k0_t7_loop.trips) : Fin 1 → Nat :=
  let c3584_i32 : BitVec 32 := 3584#32
  let c0_i32_335 : BitVec 32 := 0#32
  let c0_i32_38 : BitVec 32 := 0#32
  let c1_i32_40 : BitVec 32 := 1#32
  let arg11 : BitVec 32 := Scf.iv c0_i32_38 c1_i32_40 k0_t6
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c3584_i32 v315
  let c0_i32_340 : BitVec 32 := 0#32
  let c0_i32_336 : BitVec 32 := 0#32
  let c1_i32_337 : BitVec 32 := 1#32
  let arg12 : BitVec 32 := Scf.iv c0_i32_336 c1_i32_337 k0_t7
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk9 (v325 : IVec S16 32) (v327 : IVec S16 32) : Prop :=
  (∀ a x, ((![v325, v327] : Fin 2 → IVec S16 32) a x).toNat < S224x224.size a)
theorem k0_idx9_inb : ∀ (v325 : IVec S16 32) (v327 : IVec S16 32) (k0_hw9 : k0_chk9 v325 v327), ∀ a x, ((![v325, v327] : Fin 2 → IVec S16 32) a x).toNat < S224x224.size a := fun v325 v327 k0_hw9 => k0_hw9
def k0_off17 (k0_t6 : Fin k0_t6_loop.trips) (k0_t7 : Fin k0_t7_loop.trips) : Fin 3 → Nat :=
  let c2_i32_347 : BitVec 32 := 2#32
  let v331 : Index := Scalar.indexCast c2_i32_347
  let c0_i32_335 : BitVec 32 := 0#32
  let c0_i32_38 : BitVec 32 := 0#32
  let c1_i32_40 : BitVec 32 := 1#32
  let arg11 : BitVec 32 := Scf.iv c0_i32_38 c1_i32_40 k0_t6
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t7
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![2, v332.toNat, v333.toNat]

def k0_chk10 (v336 : IVec S16 32) (v338 : IVec S16 32) : Prop :=
  (∀ a x, ((![v336, v338] : Fin 2 → IVec S16 32) a x).toNat < S224x224.size a)
theorem k0_idx10_inb : ∀ (v336 : IVec S16 32) (v338 : IVec S16 32) (k0_hw10 : k0_chk10 v336 v338), ∀ a x, ((![v336, v338] : Fin 2 → IVec S16 32) a x).toNat < S224x224.size a := fun v336 v338 k0_hw10 => k0_hw10
def k0_off18 (k0_t6 : Fin k0_t6_loop.trips) (k0_t7 : Fin k0_t7_loop.trips) : Fin 3 → Nat :=
  let c2_i32_353 : BitVec 32 := 2#32
  let v343 : Index := Scalar.indexCast c2_i32_353
  let c0_i32_335 : BitVec 32 := 0#32
  let c0_i32_38 : BitVec 32 := 0#32
  let c1_i32_40 : BitVec 32 := 1#32
  let arg11 : BitVec 32 := Scf.iv c0_i32_38 c1_i32_40 k0_t6
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t7
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![2, v344.toNat, v345.toNat]
def k0_off19 (k0_t6 : Fin k0_t6_loop.trips) (k0_t7 : Fin k0_t7_loop.trips) : Fin 1 → Nat :=
  let c3584_i32_356 : BitVec 32 := 3584#32
  let c0_i32_335 : BitVec 32 := 0#32
  let c0_i32_38 : BitVec 32 := 0#32
  let c1_i32_40 : BitVec 32 := 1#32
  let arg11 : BitVec 32 := Scf.iv c0_i32_38 c1_i32_40 k0_t6
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c3584_i32_356 v348
  let c0_i32_340 : BitVec 32 := 0#32
  let c0_i32_336 : BitVec 32 := 0#32
  let c1_i32_337 : BitVec 32 := 1#32
  let arg12 : BitVec 32 := Scf.iv c0_i32_336 c1_i32_337 k0_t7
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk11 (v358 : IVec S16 32) (v360 : IVec S16 32) : Prop :=
  (∀ a x, ((![v358, v360] : Fin 2 → IVec S16 32) a x).toNat < S224x224.size a)
theorem k0_idx11_inb : ∀ (v358 : IVec S16 32) (v360 : IVec S16 32) (k0_hw11 : k0_chk11 v358 v360), ∀ a x, ((![v358, v360] : Fin 2 → IVec S16 32) a x).toNat < S224x224.size a := fun v358 v360 k0_hw11 => k0_hw11
def k0_off20 (k0_t6 : Fin k0_t6_loop.trips) (k0_t7 : Fin k0_t7_loop.trips) : Fin 3 → Nat :=
  let c2_i32_363 : BitVec 32 := 2#32
  let v364 : Index := Scalar.indexCast c2_i32_363
  let c0_i32_335 : BitVec 32 := 0#32
  let c0_i32_38 : BitVec 32 := 0#32
  let c1_i32_40 : BitVec 32 := 1#32
  let arg11 : BitVec 32 := Scf.iv c0_i32_38 c1_i32_40 k0_t6
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t7
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![2, v365.toNat, v366.toNat]

def k0_chk12 (v369 : IVec S16 32) (v371 : IVec S16 32) : Prop :=
  (∀ a x, ((![v369, v371] : Fin 2 → IVec S16 32) a x).toNat < S224x224.size a)
theorem k0_idx12_inb : ∀ (v369 : IVec S16 32) (v371 : IVec S16 32) (k0_hw12 : k0_chk12 v369 v371), ∀ a x, ((![v369, v371] : Fin 2 → IVec S16 32) a x).toNat < S224x224.size a := fun v369 v371 k0_hw12 => k0_hw12
def k0_off21 (k0_t6 : Fin k0_t6_loop.trips) (k0_t7 : Fin k0_t7_loop.trips) : Fin 3 → Nat :=
  let c2_i32_369 : BitVec 32 := 2#32
  let v376 : Index := Scalar.indexCast c2_i32_369
  let c0_i32_335 : BitVec 32 := 0#32
  let c0_i32_38 : BitVec 32 := 0#32
  let c1_i32_40 : BitVec 32 := 1#32
  let arg11 : BitVec 32 := Scf.iv c0_i32_38 c1_i32_40 k0_t6
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t7
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![2, v377.toNat, v378.toNat]
def k0_off22 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c32_i32 : BitVec 32 := 32#32
  let c0_i32_46 : BitVec 32 := 0#32
  ![v6.toNat, 32, 0]
@[reducible] def k0_t8_loop : Scf.Loop 32 :=
  let c0_i32_51 : BitVec 32 := 0#32
  let c8_i32_52 : BitVec 32 := 8#32
  let v48 : BitVec 32 := Scalar.addi c0_i32_51 c8_i32_52
  let c1_i32_53 : BitVec 32 := 1#32
  ⟨c0_i32_51, v48, c1_i32_53⟩
@[reducible] def k0_t9_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off23 (k0_t8 : Fin k0_t8_loop.trips) (k0_t9 : Fin k0_t9_loop.trips) : Fin 1 → Nat :=
  let c5376_i32 : BitVec 32 := 5376#32
  let c0_i32_335 : BitVec 32 := 0#32
  let c0_i32_51 : BitVec 32 := 0#32
  let c1_i32_53 : BitVec 32 := 1#32
  let arg11 : BitVec 32 := Scf.iv c0_i32_51 c1_i32_53 k0_t8
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c5376_i32 v315
  let c0_i32_340 : BitVec 32 := 0#32
  let c0_i32_336 : BitVec 32 := 0#32
  let c1_i32_337 : BitVec 32 := 1#32
  let arg12 : BitVec 32 := Scf.iv c0_i32_336 c1_i32_337 k0_t9
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk13 (v325 : IVec S16 32) (v327 : IVec S16 32) : Prop :=
  (∀ a x, ((![v325, v327] : Fin 2 → IVec S16 32) a x).toNat < S224x224.size a)
theorem k0_idx13_inb : ∀ (v325 : IVec S16 32) (v327 : IVec S16 32) (k0_hw13 : k0_chk13 v325 v327), ∀ a x, ((![v325, v327] : Fin 2 → IVec S16 32) a x).toNat < S224x224.size a := fun v325 v327 k0_hw13 => k0_hw13
def k0_off24 (k0_t8 : Fin k0_t8_loop.trips) (k0_t9 : Fin k0_t9_loop.trips) : Fin 3 → Nat :=
  let c3_i32_347 : BitVec 32 := 3#32
  let v331 : Index := Scalar.indexCast c3_i32_347
  let c0_i32_335 : BitVec 32 := 0#32
  let c0_i32_51 : BitVec 32 := 0#32
  let c1_i32_53 : BitVec 32 := 1#32
  let arg11 : BitVec 32 := Scf.iv c0_i32_51 c1_i32_53 k0_t8
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t9
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![3, v332.toNat, v333.toNat]

def k0_chk14 (v336 : IVec S16 32) (v338 : IVec S16 32) : Prop :=
  (∀ a x, ((![v336, v338] : Fin 2 → IVec S16 32) a x).toNat < S224x224.size a)
theorem k0_idx14_inb : ∀ (v336 : IVec S16 32) (v338 : IVec S16 32) (k0_hw14 : k0_chk14 v336 v338), ∀ a x, ((![v336, v338] : Fin 2 → IVec S16 32) a x).toNat < S224x224.size a := fun v336 v338 k0_hw14 => k0_hw14
def k0_off25 (k0_t8 : Fin k0_t8_loop.trips) (k0_t9 : Fin k0_t9_loop.trips) : Fin 3 → Nat :=
  let c3_i32_353 : BitVec 32 := 3#32
  let v343 : Index := Scalar.indexCast c3_i32_353
  let c0_i32_335 : BitVec 32 := 0#32
  let c0_i32_51 : BitVec 32 := 0#32
  let c1_i32_53 : BitVec 32 := 1#32
  let arg11 : BitVec 32 := Scf.iv c0_i32_51 c1_i32_53 k0_t8
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t9
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![3, v344.toNat, v345.toNat]
def k0_off26 (k0_t8 : Fin k0_t8_loop.trips) (k0_t9 : Fin k0_t9_loop.trips) : Fin 1 → Nat :=
  let c5376_i32_356 : BitVec 32 := 5376#32
  let c0_i32_335 : BitVec 32 := 0#32
  let c0_i32_51 : BitVec 32 := 0#32
  let c1_i32_53 : BitVec 32 := 1#32
  let arg11 : BitVec 32 := Scf.iv c0_i32_51 c1_i32_53 k0_t8
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c5376_i32_356 v348
  let c0_i32_340 : BitVec 32 := 0#32
  let c0_i32_336 : BitVec 32 := 0#32
  let c1_i32_337 : BitVec 32 := 1#32
  let arg12 : BitVec 32 := Scf.iv c0_i32_336 c1_i32_337 k0_t9
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk15 (v358 : IVec S16 32) (v360 : IVec S16 32) : Prop :=
  (∀ a x, ((![v358, v360] : Fin 2 → IVec S16 32) a x).toNat < S224x224.size a)
theorem k0_idx15_inb : ∀ (v358 : IVec S16 32) (v360 : IVec S16 32) (k0_hw15 : k0_chk15 v358 v360), ∀ a x, ((![v358, v360] : Fin 2 → IVec S16 32) a x).toNat < S224x224.size a := fun v358 v360 k0_hw15 => k0_hw15
def k0_off27 (k0_t8 : Fin k0_t8_loop.trips) (k0_t9 : Fin k0_t9_loop.trips) : Fin 3 → Nat :=
  let c3_i32_363 : BitVec 32 := 3#32
  let v364 : Index := Scalar.indexCast c3_i32_363
  let c0_i32_335 : BitVec 32 := 0#32
  let c0_i32_51 : BitVec 32 := 0#32
  let c1_i32_53 : BitVec 32 := 1#32
  let arg11 : BitVec 32 := Scf.iv c0_i32_51 c1_i32_53 k0_t8
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t9
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![3, v365.toNat, v366.toNat]

def k0_chk16 (v369 : IVec S16 32) (v371 : IVec S16 32) : Prop :=
  (∀ a x, ((![v369, v371] : Fin 2 → IVec S16 32) a x).toNat < S224x224.size a)
theorem k0_idx16_inb : ∀ (v369 : IVec S16 32) (v371 : IVec S16 32) (k0_hw16 : k0_chk16 v369 v371), ∀ a x, ((![v369, v371] : Fin 2 → IVec S16 32) a x).toNat < S224x224.size a := fun v369 v371 k0_hw16 => k0_hw16
def k0_off28 (k0_t8 : Fin k0_t8_loop.trips) (k0_t9 : Fin k0_t9_loop.trips) : Fin 3 → Nat :=
  let c3_i32_369 : BitVec 32 := 3#32
  let v376 : Index := Scalar.indexCast c3_i32_369
  let c0_i32_335 : BitVec 32 := 0#32
  let c0_i32_51 : BitVec 32 := 0#32
  let c1_i32_53 : BitVec 32 := 1#32
  let arg11 : BitVec 32 := Scf.iv c0_i32_51 c1_i32_53 k0_t8
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t9
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![3, v377.toNat, v378.toNat]
def k0_off29 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c48_i32_58 : BitVec 32 := 48#32
  let c0_i32_59 : BitVec 32 := 0#32
  ![v6.toNat, 48, 0]
@[reducible] def k0_t10_loop : Scf.Loop 32 :=
  let c0_i32_74 : BitVec 32 := 0#32
  let c8_i32_75 : BitVec 32 := 8#32
  let v69 : BitVec 32 := Scalar.addi c0_i32_74 c8_i32_75
  let c1_i32_76 : BitVec 32 := 1#32
  ⟨c0_i32_74, v69, c1_i32_76⟩
@[reducible] def k0_t11_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off30 (k0_t10 : Fin k0_t10_loop.trips) (k0_t11 : Fin k0_t11_loop.trips) : Fin 1 → Nat :=
  let c7168_i32 : BitVec 32 := 7168#32
  let c0_i32_335 : BitVec 32 := 0#32
  let c0_i32_74 : BitVec 32 := 0#32
  let c1_i32_76 : BitVec 32 := 1#32
  let arg11 : BitVec 32 := Scf.iv c0_i32_74 c1_i32_76 k0_t10
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c7168_i32 v315
  let c0_i32_340 : BitVec 32 := 0#32
  let c0_i32_336 : BitVec 32 := 0#32
  let c1_i32_337 : BitVec 32 := 1#32
  let arg12 : BitVec 32 := Scf.iv c0_i32_336 c1_i32_337 k0_t11
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk17 (v325 : IVec S16 32) (v327 : IVec S16 32) : Prop :=
  (∀ a x, ((![v325, v327] : Fin 2 → IVec S16 32) a x).toNat < S224x224.size a)
theorem k0_idx17_inb : ∀ (v325 : IVec S16 32) (v327 : IVec S16 32) (k0_hw17 : k0_chk17 v325 v327), ∀ a x, ((![v325, v327] : Fin 2 → IVec S16 32) a x).toNat < S224x224.size a := fun v325 v327 k0_hw17 => k0_hw17
def k0_off31 (k0_t10 : Fin k0_t10_loop.trips) (k0_t11 : Fin k0_t11_loop.trips) : Fin 3 → Nat :=
  let c0_i32_347 : BitVec 32 := 0#32
  let v331 : Index := Scalar.indexCast c0_i32_347
  let c0_i32_335 : BitVec 32 := 0#32
  let c0_i32_74 : BitVec 32 := 0#32
  let c1_i32_76 : BitVec 32 := 1#32
  let arg11 : BitVec 32 := Scf.iv c0_i32_74 c1_i32_76 k0_t10
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t11
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![0, v332.toNat, v333.toNat]

def k0_chk18 (v336 : IVec S16 32) (v338 : IVec S16 32) : Prop :=
  (∀ a x, ((![v336, v338] : Fin 2 → IVec S16 32) a x).toNat < S224x224.size a)
theorem k0_idx18_inb : ∀ (v336 : IVec S16 32) (v338 : IVec S16 32) (k0_hw18 : k0_chk18 v336 v338), ∀ a x, ((![v336, v338] : Fin 2 → IVec S16 32) a x).toNat < S224x224.size a := fun v336 v338 k0_hw18 => k0_hw18
def k0_off32 (k0_t10 : Fin k0_t10_loop.trips) (k0_t11 : Fin k0_t11_loop.trips) : Fin 3 → Nat :=
  let c0_i32_353 : BitVec 32 := 0#32
  let v343 : Index := Scalar.indexCast c0_i32_353
  let c0_i32_335 : BitVec 32 := 0#32
  let c0_i32_74 : BitVec 32 := 0#32
  let c1_i32_76 : BitVec 32 := 1#32
  let arg11 : BitVec 32 := Scf.iv c0_i32_74 c1_i32_76 k0_t10
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t11
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![0, v344.toNat, v345.toNat]
def k0_off33 (k0_t10 : Fin k0_t10_loop.trips) (k0_t11 : Fin k0_t11_loop.trips) : Fin 1 → Nat :=
  let c7168_i32_356 : BitVec 32 := 7168#32
  let c0_i32_335 : BitVec 32 := 0#32
  let c0_i32_74 : BitVec 32 := 0#32
  let c1_i32_76 : BitVec 32 := 1#32
  let arg11 : BitVec 32 := Scf.iv c0_i32_74 c1_i32_76 k0_t10
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c7168_i32_356 v348
  let c0_i32_340 : BitVec 32 := 0#32
  let c0_i32_336 : BitVec 32 := 0#32
  let c1_i32_337 : BitVec 32 := 1#32
  let arg12 : BitVec 32 := Scf.iv c0_i32_336 c1_i32_337 k0_t11
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk19 (v358 : IVec S16 32) (v360 : IVec S16 32) : Prop :=
  (∀ a x, ((![v358, v360] : Fin 2 → IVec S16 32) a x).toNat < S224x224.size a)
theorem k0_idx19_inb : ∀ (v358 : IVec S16 32) (v360 : IVec S16 32) (k0_hw19 : k0_chk19 v358 v360), ∀ a x, ((![v358, v360] : Fin 2 → IVec S16 32) a x).toNat < S224x224.size a := fun v358 v360 k0_hw19 => k0_hw19
def k0_off34 (k0_t10 : Fin k0_t10_loop.trips) (k0_t11 : Fin k0_t11_loop.trips) : Fin 3 → Nat :=
  let c0_i32_363 : BitVec 32 := 0#32
  let v364 : Index := Scalar.indexCast c0_i32_363
  let c0_i32_335 : BitVec 32 := 0#32
  let c0_i32_74 : BitVec 32 := 0#32
  let c1_i32_76 : BitVec 32 := 1#32
  let arg11 : BitVec 32 := Scf.iv c0_i32_74 c1_i32_76 k0_t10
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t11
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![0, v365.toNat, v366.toNat]

def k0_chk20 (v369 : IVec S16 32) (v371 : IVec S16 32) : Prop :=
  (∀ a x, ((![v369, v371] : Fin 2 → IVec S16 32) a x).toNat < S224x224.size a)
theorem k0_idx20_inb : ∀ (v369 : IVec S16 32) (v371 : IVec S16 32) (k0_hw20 : k0_chk20 v369 v371), ∀ a x, ((![v369, v371] : Fin 2 → IVec S16 32) a x).toNat < S224x224.size a := fun v369 v371 k0_hw20 => k0_hw20
def k0_off35 (k0_t10 : Fin k0_t10_loop.trips) (k0_t11 : Fin k0_t11_loop.trips) : Fin 3 → Nat :=
  let c0_i32_369 : BitVec 32 := 0#32
  let v376 : Index := Scalar.indexCast c0_i32_369
  let c0_i32_335 : BitVec 32 := 0#32
  let c0_i32_74 : BitVec 32 := 0#32
  let c1_i32_76 : BitVec 32 := 1#32
  let arg11 : BitVec 32 := Scf.iv c0_i32_74 c1_i32_76 k0_t10
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t11
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![0, v377.toNat, v378.toNat]
def k0_off36 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c64_i32 : BitVec 32 := 64#32
  let c0_i32_82 : BitVec 32 := 0#32
  ![v6.toNat, 64, 0]
@[reducible] def k0_t12_loop : Scf.Loop 32 :=
  let c0_i32_97 : BitVec 32 := 0#32
  let c8_i32_98 : BitVec 32 := 8#32
  let v90 : BitVec 32 := Scalar.addi c0_i32_97 c8_i32_98
  let c1_i32_99 : BitVec 32 := 1#32
  ⟨c0_i32_97, v90, c1_i32_99⟩
@[reducible] def k0_t13_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off37 (k0_t12 : Fin k0_t12_loop.trips) (k0_t13 : Fin k0_t13_loop.trips) : Fin 1 → Nat :=
  let c8960_i32 : BitVec 32 := 8960#32
  let c0_i32_335 : BitVec 32 := 0#32
  let c0_i32_97 : BitVec 32 := 0#32
  let c1_i32_99 : BitVec 32 := 1#32
  let arg11 : BitVec 32 := Scf.iv c0_i32_97 c1_i32_99 k0_t12
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c8960_i32 v315
  let c0_i32_340 : BitVec 32 := 0#32
  let c0_i32_336 : BitVec 32 := 0#32
  let c1_i32_337 : BitVec 32 := 1#32
  let arg12 : BitVec 32 := Scf.iv c0_i32_336 c1_i32_337 k0_t13
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk21 (v325 : IVec S16 32) (v327 : IVec S16 32) : Prop :=
  (∀ a x, ((![v325, v327] : Fin 2 → IVec S16 32) a x).toNat < S224x224.size a)
theorem k0_idx21_inb : ∀ (v325 : IVec S16 32) (v327 : IVec S16 32) (k0_hw21 : k0_chk21 v325 v327), ∀ a x, ((![v325, v327] : Fin 2 → IVec S16 32) a x).toNat < S224x224.size a := fun v325 v327 k0_hw21 => k0_hw21
def k0_off38 (k0_t12 : Fin k0_t12_loop.trips) (k0_t13 : Fin k0_t13_loop.trips) : Fin 3 → Nat :=
  let c1_i32_347 : BitVec 32 := 1#32
  let v331 : Index := Scalar.indexCast c1_i32_347
  let c0_i32_335 : BitVec 32 := 0#32
  let c0_i32_97 : BitVec 32 := 0#32
  let c1_i32_99 : BitVec 32 := 1#32
  let arg11 : BitVec 32 := Scf.iv c0_i32_97 c1_i32_99 k0_t12
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t13
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![1, v332.toNat, v333.toNat]

def k0_chk22 (v336 : IVec S16 32) (v338 : IVec S16 32) : Prop :=
  (∀ a x, ((![v336, v338] : Fin 2 → IVec S16 32) a x).toNat < S224x224.size a)
theorem k0_idx22_inb : ∀ (v336 : IVec S16 32) (v338 : IVec S16 32) (k0_hw22 : k0_chk22 v336 v338), ∀ a x, ((![v336, v338] : Fin 2 → IVec S16 32) a x).toNat < S224x224.size a := fun v336 v338 k0_hw22 => k0_hw22
def k0_off39 (k0_t12 : Fin k0_t12_loop.trips) (k0_t13 : Fin k0_t13_loop.trips) : Fin 3 → Nat :=
  let c1_i32_353 : BitVec 32 := 1#32
  let v343 : Index := Scalar.indexCast c1_i32_353
  let c0_i32_335 : BitVec 32 := 0#32
  let c0_i32_97 : BitVec 32 := 0#32
  let c1_i32_99 : BitVec 32 := 1#32
  let arg11 : BitVec 32 := Scf.iv c0_i32_97 c1_i32_99 k0_t12
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t13
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![1, v344.toNat, v345.toNat]
def k0_off40 (k0_t12 : Fin k0_t12_loop.trips) (k0_t13 : Fin k0_t13_loop.trips) : Fin 1 → Nat :=
  let c8960_i32_356 : BitVec 32 := 8960#32
  let c0_i32_335 : BitVec 32 := 0#32
  let c0_i32_97 : BitVec 32 := 0#32
  let c1_i32_99 : BitVec 32 := 1#32
  let arg11 : BitVec 32 := Scf.iv c0_i32_97 c1_i32_99 k0_t12
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c8960_i32_356 v348
  let c0_i32_340 : BitVec 32 := 0#32
  let c0_i32_336 : BitVec 32 := 0#32
  let c1_i32_337 : BitVec 32 := 1#32
  let arg12 : BitVec 32 := Scf.iv c0_i32_336 c1_i32_337 k0_t13
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk23 (v358 : IVec S16 32) (v360 : IVec S16 32) : Prop :=
  (∀ a x, ((![v358, v360] : Fin 2 → IVec S16 32) a x).toNat < S224x224.size a)
theorem k0_idx23_inb : ∀ (v358 : IVec S16 32) (v360 : IVec S16 32) (k0_hw23 : k0_chk23 v358 v360), ∀ a x, ((![v358, v360] : Fin 2 → IVec S16 32) a x).toNat < S224x224.size a := fun v358 v360 k0_hw23 => k0_hw23
def k0_off41 (k0_t12 : Fin k0_t12_loop.trips) (k0_t13 : Fin k0_t13_loop.trips) : Fin 3 → Nat :=
  let c1_i32_363 : BitVec 32 := 1#32
  let v364 : Index := Scalar.indexCast c1_i32_363
  let c0_i32_335 : BitVec 32 := 0#32
  let c0_i32_97 : BitVec 32 := 0#32
  let c1_i32_99 : BitVec 32 := 1#32
  let arg11 : BitVec 32 := Scf.iv c0_i32_97 c1_i32_99 k0_t12
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t13
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![1, v365.toNat, v366.toNat]

def k0_chk24 (v369 : IVec S16 32) (v371 : IVec S16 32) : Prop :=
  (∀ a x, ((![v369, v371] : Fin 2 → IVec S16 32) a x).toNat < S224x224.size a)
theorem k0_idx24_inb : ∀ (v369 : IVec S16 32) (v371 : IVec S16 32) (k0_hw24 : k0_chk24 v369 v371), ∀ a x, ((![v369, v371] : Fin 2 → IVec S16 32) a x).toNat < S224x224.size a := fun v369 v371 k0_hw24 => k0_hw24
def k0_off42 (k0_t12 : Fin k0_t12_loop.trips) (k0_t13 : Fin k0_t13_loop.trips) : Fin 3 → Nat :=
  let c1_i32_369 : BitVec 32 := 1#32
  let v376 : Index := Scalar.indexCast c1_i32_369
  let c0_i32_335 : BitVec 32 := 0#32
  let c0_i32_97 : BitVec 32 := 0#32
  let c1_i32_99 : BitVec 32 := 1#32
  let arg11 : BitVec 32 := Scf.iv c0_i32_97 c1_i32_99 k0_t12
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t13
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![1, v377.toNat, v378.toNat]
def k0_off43 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c80_i32 : BitVec 32 := 80#32
  let c0_i32_105 : BitVec 32 := 0#32
  ![v6.toNat, 80, 0]
@[reducible] def k0_t14_loop : Scf.Loop 32 :=
  let c0_i32_120 : BitVec 32 := 0#32
  let c8_i32_121 : BitVec 32 := 8#32
  let v111 : BitVec 32 := Scalar.addi c0_i32_120 c8_i32_121
  let c1_i32_122 : BitVec 32 := 1#32
  ⟨c0_i32_120, v111, c1_i32_122⟩
@[reducible] def k0_t15_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off44 (k0_t14 : Fin k0_t14_loop.trips) (k0_t15 : Fin k0_t15_loop.trips) : Fin 1 → Nat :=
  let c10752_i32 : BitVec 32 := 10752#32
  let c0_i32_335 : BitVec 32 := 0#32
  let c0_i32_120 : BitVec 32 := 0#32
  let c1_i32_122 : BitVec 32 := 1#32
  let arg11 : BitVec 32 := Scf.iv c0_i32_120 c1_i32_122 k0_t14
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c10752_i32 v315
  let c0_i32_340 : BitVec 32 := 0#32
  let c0_i32_336 : BitVec 32 := 0#32
  let c1_i32_337 : BitVec 32 := 1#32
  let arg12 : BitVec 32 := Scf.iv c0_i32_336 c1_i32_337 k0_t15
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk25 (v325 : IVec S16 32) (v327 : IVec S16 32) : Prop :=
  (∀ a x, ((![v325, v327] : Fin 2 → IVec S16 32) a x).toNat < S224x224.size a)
theorem k0_idx25_inb : ∀ (v325 : IVec S16 32) (v327 : IVec S16 32) (k0_hw25 : k0_chk25 v325 v327), ∀ a x, ((![v325, v327] : Fin 2 → IVec S16 32) a x).toNat < S224x224.size a := fun v325 v327 k0_hw25 => k0_hw25
def k0_off45 (k0_t14 : Fin k0_t14_loop.trips) (k0_t15 : Fin k0_t15_loop.trips) : Fin 3 → Nat :=
  let c2_i32_347 : BitVec 32 := 2#32
  let v331 : Index := Scalar.indexCast c2_i32_347
  let c0_i32_335 : BitVec 32 := 0#32
  let c0_i32_120 : BitVec 32 := 0#32
  let c1_i32_122 : BitVec 32 := 1#32
  let arg11 : BitVec 32 := Scf.iv c0_i32_120 c1_i32_122 k0_t14
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t15
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![2, v332.toNat, v333.toNat]

def k0_chk26 (v336 : IVec S16 32) (v338 : IVec S16 32) : Prop :=
  (∀ a x, ((![v336, v338] : Fin 2 → IVec S16 32) a x).toNat < S224x224.size a)
theorem k0_idx26_inb : ∀ (v336 : IVec S16 32) (v338 : IVec S16 32) (k0_hw26 : k0_chk26 v336 v338), ∀ a x, ((![v336, v338] : Fin 2 → IVec S16 32) a x).toNat < S224x224.size a := fun v336 v338 k0_hw26 => k0_hw26
def k0_off46 (k0_t14 : Fin k0_t14_loop.trips) (k0_t15 : Fin k0_t15_loop.trips) : Fin 3 → Nat :=
  let c2_i32_353 : BitVec 32 := 2#32
  let v343 : Index := Scalar.indexCast c2_i32_353
  let c0_i32_335 : BitVec 32 := 0#32
  let c0_i32_120 : BitVec 32 := 0#32
  let c1_i32_122 : BitVec 32 := 1#32
  let arg11 : BitVec 32 := Scf.iv c0_i32_120 c1_i32_122 k0_t14
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t15
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![2, v344.toNat, v345.toNat]
def k0_off47 (k0_t14 : Fin k0_t14_loop.trips) (k0_t15 : Fin k0_t15_loop.trips) : Fin 1 → Nat :=
  let c10752_i32_356 : BitVec 32 := 10752#32
  let c0_i32_335 : BitVec 32 := 0#32
  let c0_i32_120 : BitVec 32 := 0#32
  let c1_i32_122 : BitVec 32 := 1#32
  let arg11 : BitVec 32 := Scf.iv c0_i32_120 c1_i32_122 k0_t14
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c10752_i32_356 v348
  let c0_i32_340 : BitVec 32 := 0#32
  let c0_i32_336 : BitVec 32 := 0#32
  let c1_i32_337 : BitVec 32 := 1#32
  let arg12 : BitVec 32 := Scf.iv c0_i32_336 c1_i32_337 k0_t15
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk27 (v358 : IVec S16 32) (v360 : IVec S16 32) : Prop :=
  (∀ a x, ((![v358, v360] : Fin 2 → IVec S16 32) a x).toNat < S224x224.size a)
theorem k0_idx27_inb : ∀ (v358 : IVec S16 32) (v360 : IVec S16 32) (k0_hw27 : k0_chk27 v358 v360), ∀ a x, ((![v358, v360] : Fin 2 → IVec S16 32) a x).toNat < S224x224.size a := fun v358 v360 k0_hw27 => k0_hw27
def k0_off48 (k0_t14 : Fin k0_t14_loop.trips) (k0_t15 : Fin k0_t15_loop.trips) : Fin 3 → Nat :=
  let c2_i32_363 : BitVec 32 := 2#32
  let v364 : Index := Scalar.indexCast c2_i32_363
  let c0_i32_335 : BitVec 32 := 0#32
  let c0_i32_120 : BitVec 32 := 0#32
  let c1_i32_122 : BitVec 32 := 1#32
  let arg11 : BitVec 32 := Scf.iv c0_i32_120 c1_i32_122 k0_t14
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t15
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![2, v365.toNat, v366.toNat]

def k0_chk28 (v369 : IVec S16 32) (v371 : IVec S16 32) : Prop :=
  (∀ a x, ((![v369, v371] : Fin 2 → IVec S16 32) a x).toNat < S224x224.size a)
theorem k0_idx28_inb : ∀ (v369 : IVec S16 32) (v371 : IVec S16 32) (k0_hw28 : k0_chk28 v369 v371), ∀ a x, ((![v369, v371] : Fin 2 → IVec S16 32) a x).toNat < S224x224.size a := fun v369 v371 k0_hw28 => k0_hw28
def k0_off49 (k0_t14 : Fin k0_t14_loop.trips) (k0_t15 : Fin k0_t15_loop.trips) : Fin 3 → Nat :=
  let c2_i32_369 : BitVec 32 := 2#32
  let v376 : Index := Scalar.indexCast c2_i32_369
  let c0_i32_335 : BitVec 32 := 0#32
  let c0_i32_120 : BitVec 32 := 0#32
  let c1_i32_122 : BitVec 32 := 1#32
  let arg11 : BitVec 32 := Scf.iv c0_i32_120 c1_i32_122 k0_t14
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t15
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![2, v377.toNat, v378.toNat]
def k0_off50 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c96_i32 : BitVec 32 := 96#32
  let c0_i32_128 : BitVec 32 := 0#32
  ![v6.toNat, 96, 0]
@[reducible] def k0_t16_loop : Scf.Loop 32 :=
  let c0_i32_143 : BitVec 32 := 0#32
  let c8_i32_144 : BitVec 32 := 8#32
  let v132 : BitVec 32 := Scalar.addi c0_i32_143 c8_i32_144
  let c1_i32_145 : BitVec 32 := 1#32
  ⟨c0_i32_143, v132, c1_i32_145⟩
@[reducible] def k0_t17_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off51 (k0_t16 : Fin k0_t16_loop.trips) (k0_t17 : Fin k0_t17_loop.trips) : Fin 1 → Nat :=
  let c12544_i32 : BitVec 32 := 12544#32
  let c0_i32_335 : BitVec 32 := 0#32
  let c0_i32_143 : BitVec 32 := 0#32
  let c1_i32_145 : BitVec 32 := 1#32
  let arg11 : BitVec 32 := Scf.iv c0_i32_143 c1_i32_145 k0_t16
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c12544_i32 v315
  let c0_i32_340 : BitVec 32 := 0#32
  let c0_i32_336 : BitVec 32 := 0#32
  let c1_i32_337 : BitVec 32 := 1#32
  let arg12 : BitVec 32 := Scf.iv c0_i32_336 c1_i32_337 k0_t17
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk29 (v325 : IVec S16 32) (v327 : IVec S16 32) : Prop :=
  (∀ a x, ((![v325, v327] : Fin 2 → IVec S16 32) a x).toNat < S224x224.size a)
theorem k0_idx29_inb : ∀ (v325 : IVec S16 32) (v327 : IVec S16 32) (k0_hw29 : k0_chk29 v325 v327), ∀ a x, ((![v325, v327] : Fin 2 → IVec S16 32) a x).toNat < S224x224.size a := fun v325 v327 k0_hw29 => k0_hw29
def k0_off52 (k0_t16 : Fin k0_t16_loop.trips) (k0_t17 : Fin k0_t17_loop.trips) : Fin 3 → Nat :=
  let c3_i32_347 : BitVec 32 := 3#32
  let v331 : Index := Scalar.indexCast c3_i32_347
  let c0_i32_335 : BitVec 32 := 0#32
  let c0_i32_143 : BitVec 32 := 0#32
  let c1_i32_145 : BitVec 32 := 1#32
  let arg11 : BitVec 32 := Scf.iv c0_i32_143 c1_i32_145 k0_t16
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t17
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![3, v332.toNat, v333.toNat]

def k0_chk30 (v336 : IVec S16 32) (v338 : IVec S16 32) : Prop :=
  (∀ a x, ((![v336, v338] : Fin 2 → IVec S16 32) a x).toNat < S224x224.size a)
theorem k0_idx30_inb : ∀ (v336 : IVec S16 32) (v338 : IVec S16 32) (k0_hw30 : k0_chk30 v336 v338), ∀ a x, ((![v336, v338] : Fin 2 → IVec S16 32) a x).toNat < S224x224.size a := fun v336 v338 k0_hw30 => k0_hw30
def k0_off53 (k0_t16 : Fin k0_t16_loop.trips) (k0_t17 : Fin k0_t17_loop.trips) : Fin 3 → Nat :=
  let c3_i32_353 : BitVec 32 := 3#32
  let v343 : Index := Scalar.indexCast c3_i32_353
  let c0_i32_335 : BitVec 32 := 0#32
  let c0_i32_143 : BitVec 32 := 0#32
  let c1_i32_145 : BitVec 32 := 1#32
  let arg11 : BitVec 32 := Scf.iv c0_i32_143 c1_i32_145 k0_t16
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t17
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![3, v344.toNat, v345.toNat]
def k0_off54 (k0_t16 : Fin k0_t16_loop.trips) (k0_t17 : Fin k0_t17_loop.trips) : Fin 1 → Nat :=
  let c12544_i32_356 : BitVec 32 := 12544#32
  let c0_i32_335 : BitVec 32 := 0#32
  let c0_i32_143 : BitVec 32 := 0#32
  let c1_i32_145 : BitVec 32 := 1#32
  let arg11 : BitVec 32 := Scf.iv c0_i32_143 c1_i32_145 k0_t16
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c12544_i32_356 v348
  let c0_i32_340 : BitVec 32 := 0#32
  let c0_i32_336 : BitVec 32 := 0#32
  let c1_i32_337 : BitVec 32 := 1#32
  let arg12 : BitVec 32 := Scf.iv c0_i32_336 c1_i32_337 k0_t17
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk31 (v358 : IVec S16 32) (v360 : IVec S16 32) : Prop :=
  (∀ a x, ((![v358, v360] : Fin 2 → IVec S16 32) a x).toNat < S224x224.size a)
theorem k0_idx31_inb : ∀ (v358 : IVec S16 32) (v360 : IVec S16 32) (k0_hw31 : k0_chk31 v358 v360), ∀ a x, ((![v358, v360] : Fin 2 → IVec S16 32) a x).toNat < S224x224.size a := fun v358 v360 k0_hw31 => k0_hw31
def k0_off55 (k0_t16 : Fin k0_t16_loop.trips) (k0_t17 : Fin k0_t17_loop.trips) : Fin 3 → Nat :=
  let c3_i32_363 : BitVec 32 := 3#32
  let v364 : Index := Scalar.indexCast c3_i32_363
  let c0_i32_335 : BitVec 32 := 0#32
  let c0_i32_143 : BitVec 32 := 0#32
  let c1_i32_145 : BitVec 32 := 1#32
  let arg11 : BitVec 32 := Scf.iv c0_i32_143 c1_i32_145 k0_t16
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t17
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![3, v365.toNat, v366.toNat]

def k0_chk32 (v369 : IVec S16 32) (v371 : IVec S16 32) : Prop :=
  (∀ a x, ((![v369, v371] : Fin 2 → IVec S16 32) a x).toNat < S224x224.size a)
theorem k0_idx32_inb : ∀ (v369 : IVec S16 32) (v371 : IVec S16 32) (k0_hw32 : k0_chk32 v369 v371), ∀ a x, ((![v369, v371] : Fin 2 → IVec S16 32) a x).toNat < S224x224.size a := fun v369 v371 k0_hw32 => k0_hw32
def k0_off56 (k0_t16 : Fin k0_t16_loop.trips) (k0_t17 : Fin k0_t17_loop.trips) : Fin 3 → Nat :=
  let c3_i32_369 : BitVec 32 := 3#32
  let v376 : Index := Scalar.indexCast c3_i32_369
  let c0_i32_335 : BitVec 32 := 0#32
  let c0_i32_143 : BitVec 32 := 0#32
  let c1_i32_145 : BitVec 32 := 1#32
  let arg11 : BitVec 32 := Scf.iv c0_i32_143 c1_i32_145 k0_t16
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t17
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![3, v377.toNat, v378.toNat]
def k0_off57 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c112_i32 : BitVec 32 := 112#32
  let c0_i32_151 : BitVec 32 := 0#32
  ![v6.toNat, 112, 0]
@[reducible] def k0_t18_loop : Scf.Loop 32 :=
  let c0_i32_166 : BitVec 32 := 0#32
  let c8_i32_167 : BitVec 32 := 8#32
  let v153 : BitVec 32 := Scalar.addi c0_i32_166 c8_i32_167
  let c1_i32_168 : BitVec 32 := 1#32
  ⟨c0_i32_166, v153, c1_i32_168⟩
@[reducible] def k0_t19_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off58 (k0_t18 : Fin k0_t18_loop.trips) (k0_t19 : Fin k0_t19_loop.trips) : Fin 1 → Nat :=
  let c14336_i32 : BitVec 32 := 14336#32
  let c0_i32_335 : BitVec 32 := 0#32
  let c0_i32_166 : BitVec 32 := 0#32
  let c1_i32_168 : BitVec 32 := 1#32
  let arg11 : BitVec 32 := Scf.iv c0_i32_166 c1_i32_168 k0_t18
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c14336_i32 v315
  let c0_i32_340 : BitVec 32 := 0#32
  let c0_i32_336 : BitVec 32 := 0#32
  let c1_i32_337 : BitVec 32 := 1#32
  let arg12 : BitVec 32 := Scf.iv c0_i32_336 c1_i32_337 k0_t19
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk33 (v325 : IVec S16 32) (v327 : IVec S16 32) : Prop :=
  (∀ a x, ((![v325, v327] : Fin 2 → IVec S16 32) a x).toNat < S224x224.size a)
theorem k0_idx33_inb : ∀ (v325 : IVec S16 32) (v327 : IVec S16 32) (k0_hw33 : k0_chk33 v325 v327), ∀ a x, ((![v325, v327] : Fin 2 → IVec S16 32) a x).toNat < S224x224.size a := fun v325 v327 k0_hw33 => k0_hw33
def k0_off59 (k0_t18 : Fin k0_t18_loop.trips) (k0_t19 : Fin k0_t19_loop.trips) : Fin 3 → Nat :=
  let c0_i32_347 : BitVec 32 := 0#32
  let v331 : Index := Scalar.indexCast c0_i32_347
  let c0_i32_335 : BitVec 32 := 0#32
  let c0_i32_166 : BitVec 32 := 0#32
  let c1_i32_168 : BitVec 32 := 1#32
  let arg11 : BitVec 32 := Scf.iv c0_i32_166 c1_i32_168 k0_t18
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t19
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![0, v332.toNat, v333.toNat]

def k0_chk34 (v336 : IVec S16 32) (v338 : IVec S16 32) : Prop :=
  (∀ a x, ((![v336, v338] : Fin 2 → IVec S16 32) a x).toNat < S224x224.size a)
theorem k0_idx34_inb : ∀ (v336 : IVec S16 32) (v338 : IVec S16 32) (k0_hw34 : k0_chk34 v336 v338), ∀ a x, ((![v336, v338] : Fin 2 → IVec S16 32) a x).toNat < S224x224.size a := fun v336 v338 k0_hw34 => k0_hw34
def k0_off60 (k0_t18 : Fin k0_t18_loop.trips) (k0_t19 : Fin k0_t19_loop.trips) : Fin 3 → Nat :=
  let c0_i32_353 : BitVec 32 := 0#32
  let v343 : Index := Scalar.indexCast c0_i32_353
  let c0_i32_335 : BitVec 32 := 0#32
  let c0_i32_166 : BitVec 32 := 0#32
  let c1_i32_168 : BitVec 32 := 1#32
  let arg11 : BitVec 32 := Scf.iv c0_i32_166 c1_i32_168 k0_t18
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t19
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![0, v344.toNat, v345.toNat]
def k0_off61 (k0_t18 : Fin k0_t18_loop.trips) (k0_t19 : Fin k0_t19_loop.trips) : Fin 1 → Nat :=
  let c14336_i32_356 : BitVec 32 := 14336#32
  let c0_i32_335 : BitVec 32 := 0#32
  let c0_i32_166 : BitVec 32 := 0#32
  let c1_i32_168 : BitVec 32 := 1#32
  let arg11 : BitVec 32 := Scf.iv c0_i32_166 c1_i32_168 k0_t18
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c14336_i32_356 v348
  let c0_i32_340 : BitVec 32 := 0#32
  let c0_i32_336 : BitVec 32 := 0#32
  let c1_i32_337 : BitVec 32 := 1#32
  let arg12 : BitVec 32 := Scf.iv c0_i32_336 c1_i32_337 k0_t19
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk35 (v358 : IVec S16 32) (v360 : IVec S16 32) : Prop :=
  (∀ a x, ((![v358, v360] : Fin 2 → IVec S16 32) a x).toNat < S224x224.size a)
theorem k0_idx35_inb : ∀ (v358 : IVec S16 32) (v360 : IVec S16 32) (k0_hw35 : k0_chk35 v358 v360), ∀ a x, ((![v358, v360] : Fin 2 → IVec S16 32) a x).toNat < S224x224.size a := fun v358 v360 k0_hw35 => k0_hw35
def k0_off62 (k0_t18 : Fin k0_t18_loop.trips) (k0_t19 : Fin k0_t19_loop.trips) : Fin 3 → Nat :=
  let c0_i32_363 : BitVec 32 := 0#32
  let v364 : Index := Scalar.indexCast c0_i32_363
  let c0_i32_335 : BitVec 32 := 0#32
  let c0_i32_166 : BitVec 32 := 0#32
  let c1_i32_168 : BitVec 32 := 1#32
  let arg11 : BitVec 32 := Scf.iv c0_i32_166 c1_i32_168 k0_t18
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t19
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![0, v365.toNat, v366.toNat]

def k0_chk36 (v369 : IVec S16 32) (v371 : IVec S16 32) : Prop :=
  (∀ a x, ((![v369, v371] : Fin 2 → IVec S16 32) a x).toNat < S224x224.size a)
theorem k0_idx36_inb : ∀ (v369 : IVec S16 32) (v371 : IVec S16 32) (k0_hw36 : k0_chk36 v369 v371), ∀ a x, ((![v369, v371] : Fin 2 → IVec S16 32) a x).toNat < S224x224.size a := fun v369 v371 k0_hw36 => k0_hw36
def k0_off63 (k0_t18 : Fin k0_t18_loop.trips) (k0_t19 : Fin k0_t19_loop.trips) : Fin 3 → Nat :=
  let c0_i32_369 : BitVec 32 := 0#32
  let v376 : Index := Scalar.indexCast c0_i32_369
  let c0_i32_335 : BitVec 32 := 0#32
  let c0_i32_166 : BitVec 32 := 0#32
  let c1_i32_168 : BitVec 32 := 1#32
  let arg11 : BitVec 32 := Scf.iv c0_i32_166 c1_i32_168 k0_t18
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t19
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![0, v377.toNat, v378.toNat]
def k0_off64 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c128_i32 : BitVec 32 := 128#32
  let c0_i32_174 : BitVec 32 := 0#32
  ![v6.toNat, 128, 0]
@[reducible] def k0_t20_loop : Scf.Loop 32 :=
  let c0_i32_189 : BitVec 32 := 0#32
  let c8_i32_190 : BitVec 32 := 8#32
  let v174 : BitVec 32 := Scalar.addi c0_i32_189 c8_i32_190
  let c1_i32_191 : BitVec 32 := 1#32
  ⟨c0_i32_189, v174, c1_i32_191⟩
@[reducible] def k0_t21_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off65 (k0_t20 : Fin k0_t20_loop.trips) (k0_t21 : Fin k0_t21_loop.trips) : Fin 1 → Nat :=
  let c16128_i32 : BitVec 32 := 16128#32
  let c0_i32_335 : BitVec 32 := 0#32
  let c0_i32_189 : BitVec 32 := 0#32
  let c1_i32_191 : BitVec 32 := 1#32
  let arg11 : BitVec 32 := Scf.iv c0_i32_189 c1_i32_191 k0_t20
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c16128_i32 v315
  let c0_i32_340 : BitVec 32 := 0#32
  let c0_i32_336 : BitVec 32 := 0#32
  let c1_i32_337 : BitVec 32 := 1#32
  let arg12 : BitVec 32 := Scf.iv c0_i32_336 c1_i32_337 k0_t21
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk37 (v325 : IVec S16 32) (v327 : IVec S16 32) : Prop :=
  (∀ a x, ((![v325, v327] : Fin 2 → IVec S16 32) a x).toNat < S224x224.size a)
theorem k0_idx37_inb : ∀ (v325 : IVec S16 32) (v327 : IVec S16 32) (k0_hw37 : k0_chk37 v325 v327), ∀ a x, ((![v325, v327] : Fin 2 → IVec S16 32) a x).toNat < S224x224.size a := fun v325 v327 k0_hw37 => k0_hw37
def k0_off66 (k0_t20 : Fin k0_t20_loop.trips) (k0_t21 : Fin k0_t21_loop.trips) : Fin 3 → Nat :=
  let c1_i32_347 : BitVec 32 := 1#32
  let v331 : Index := Scalar.indexCast c1_i32_347
  let c0_i32_335 : BitVec 32 := 0#32
  let c0_i32_189 : BitVec 32 := 0#32
  let c1_i32_191 : BitVec 32 := 1#32
  let arg11 : BitVec 32 := Scf.iv c0_i32_189 c1_i32_191 k0_t20
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t21
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![1, v332.toNat, v333.toNat]

def k0_chk38 (v336 : IVec S16 32) (v338 : IVec S16 32) : Prop :=
  (∀ a x, ((![v336, v338] : Fin 2 → IVec S16 32) a x).toNat < S224x224.size a)
theorem k0_idx38_inb : ∀ (v336 : IVec S16 32) (v338 : IVec S16 32) (k0_hw38 : k0_chk38 v336 v338), ∀ a x, ((![v336, v338] : Fin 2 → IVec S16 32) a x).toNat < S224x224.size a := fun v336 v338 k0_hw38 => k0_hw38
def k0_off67 (k0_t20 : Fin k0_t20_loop.trips) (k0_t21 : Fin k0_t21_loop.trips) : Fin 3 → Nat :=
  let c1_i32_353 : BitVec 32 := 1#32
  let v343 : Index := Scalar.indexCast c1_i32_353
  let c0_i32_335 : BitVec 32 := 0#32
  let c0_i32_189 : BitVec 32 := 0#32
  let c1_i32_191 : BitVec 32 := 1#32
  let arg11 : BitVec 32 := Scf.iv c0_i32_189 c1_i32_191 k0_t20
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t21
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![1, v344.toNat, v345.toNat]
def k0_off68 (k0_t20 : Fin k0_t20_loop.trips) (k0_t21 : Fin k0_t21_loop.trips) : Fin 1 → Nat :=
  let c16128_i32_356 : BitVec 32 := 16128#32
  let c0_i32_335 : BitVec 32 := 0#32
  let c0_i32_189 : BitVec 32 := 0#32
  let c1_i32_191 : BitVec 32 := 1#32
  let arg11 : BitVec 32 := Scf.iv c0_i32_189 c1_i32_191 k0_t20
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c16128_i32_356 v348
  let c0_i32_340 : BitVec 32 := 0#32
  let c0_i32_336 : BitVec 32 := 0#32
  let c1_i32_337 : BitVec 32 := 1#32
  let arg12 : BitVec 32 := Scf.iv c0_i32_336 c1_i32_337 k0_t21
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk39 (v358 : IVec S16 32) (v360 : IVec S16 32) : Prop :=
  (∀ a x, ((![v358, v360] : Fin 2 → IVec S16 32) a x).toNat < S224x224.size a)
theorem k0_idx39_inb : ∀ (v358 : IVec S16 32) (v360 : IVec S16 32) (k0_hw39 : k0_chk39 v358 v360), ∀ a x, ((![v358, v360] : Fin 2 → IVec S16 32) a x).toNat < S224x224.size a := fun v358 v360 k0_hw39 => k0_hw39
def k0_off69 (k0_t20 : Fin k0_t20_loop.trips) (k0_t21 : Fin k0_t21_loop.trips) : Fin 3 → Nat :=
  let c1_i32_363 : BitVec 32 := 1#32
  let v364 : Index := Scalar.indexCast c1_i32_363
  let c0_i32_335 : BitVec 32 := 0#32
  let c0_i32_189 : BitVec 32 := 0#32
  let c1_i32_191 : BitVec 32 := 1#32
  let arg11 : BitVec 32 := Scf.iv c0_i32_189 c1_i32_191 k0_t20
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t21
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![1, v365.toNat, v366.toNat]

def k0_chk40 (v369 : IVec S16 32) (v371 : IVec S16 32) : Prop :=
  (∀ a x, ((![v369, v371] : Fin 2 → IVec S16 32) a x).toNat < S224x224.size a)
theorem k0_idx40_inb : ∀ (v369 : IVec S16 32) (v371 : IVec S16 32) (k0_hw40 : k0_chk40 v369 v371), ∀ a x, ((![v369, v371] : Fin 2 → IVec S16 32) a x).toNat < S224x224.size a := fun v369 v371 k0_hw40 => k0_hw40
def k0_off70 (k0_t20 : Fin k0_t20_loop.trips) (k0_t21 : Fin k0_t21_loop.trips) : Fin 3 → Nat :=
  let c1_i32_369 : BitVec 32 := 1#32
  let v376 : Index := Scalar.indexCast c1_i32_369
  let c0_i32_335 : BitVec 32 := 0#32
  let c0_i32_189 : BitVec 32 := 0#32
  let c1_i32_191 : BitVec 32 := 1#32
  let arg11 : BitVec 32 := Scf.iv c0_i32_189 c1_i32_191 k0_t20
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t21
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![1, v377.toNat, v378.toNat]
def k0_off71 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c144_i32 : BitVec 32 := 144#32
  let c0_i32_197 : BitVec 32 := 0#32
  ![v6.toNat, 144, 0]
@[reducible] def k0_t22_loop : Scf.Loop 32 :=
  let c0_i32_212 : BitVec 32 := 0#32
  let c8_i32_213 : BitVec 32 := 8#32
  let v195 : BitVec 32 := Scalar.addi c0_i32_212 c8_i32_213
  let c1_i32_214 : BitVec 32 := 1#32
  ⟨c0_i32_212, v195, c1_i32_214⟩
@[reducible] def k0_t23_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off72 (k0_t22 : Fin k0_t22_loop.trips) (k0_t23 : Fin k0_t23_loop.trips) : Fin 1 → Nat :=
  let c17920_i32 : BitVec 32 := 17920#32
  let c0_i32_335 : BitVec 32 := 0#32
  let c0_i32_212 : BitVec 32 := 0#32
  let c1_i32_214 : BitVec 32 := 1#32
  let arg11 : BitVec 32 := Scf.iv c0_i32_212 c1_i32_214 k0_t22
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c17920_i32 v315
  let c0_i32_340 : BitVec 32 := 0#32
  let c0_i32_336 : BitVec 32 := 0#32
  let c1_i32_337 : BitVec 32 := 1#32
  let arg12 : BitVec 32 := Scf.iv c0_i32_336 c1_i32_337 k0_t23
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk41 (v325 : IVec S16 32) (v327 : IVec S16 32) : Prop :=
  (∀ a x, ((![v325, v327] : Fin 2 → IVec S16 32) a x).toNat < S224x224.size a)
theorem k0_idx41_inb : ∀ (v325 : IVec S16 32) (v327 : IVec S16 32) (k0_hw41 : k0_chk41 v325 v327), ∀ a x, ((![v325, v327] : Fin 2 → IVec S16 32) a x).toNat < S224x224.size a := fun v325 v327 k0_hw41 => k0_hw41
def k0_off73 (k0_t22 : Fin k0_t22_loop.trips) (k0_t23 : Fin k0_t23_loop.trips) : Fin 3 → Nat :=
  let c2_i32_347 : BitVec 32 := 2#32
  let v331 : Index := Scalar.indexCast c2_i32_347
  let c0_i32_335 : BitVec 32 := 0#32
  let c0_i32_212 : BitVec 32 := 0#32
  let c1_i32_214 : BitVec 32 := 1#32
  let arg11 : BitVec 32 := Scf.iv c0_i32_212 c1_i32_214 k0_t22
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t23
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![2, v332.toNat, v333.toNat]

def k0_chk42 (v336 : IVec S16 32) (v338 : IVec S16 32) : Prop :=
  (∀ a x, ((![v336, v338] : Fin 2 → IVec S16 32) a x).toNat < S224x224.size a)
theorem k0_idx42_inb : ∀ (v336 : IVec S16 32) (v338 : IVec S16 32) (k0_hw42 : k0_chk42 v336 v338), ∀ a x, ((![v336, v338] : Fin 2 → IVec S16 32) a x).toNat < S224x224.size a := fun v336 v338 k0_hw42 => k0_hw42
def k0_off74 (k0_t22 : Fin k0_t22_loop.trips) (k0_t23 : Fin k0_t23_loop.trips) : Fin 3 → Nat :=
  let c2_i32_353 : BitVec 32 := 2#32
  let v343 : Index := Scalar.indexCast c2_i32_353
  let c0_i32_335 : BitVec 32 := 0#32
  let c0_i32_212 : BitVec 32 := 0#32
  let c1_i32_214 : BitVec 32 := 1#32
  let arg11 : BitVec 32 := Scf.iv c0_i32_212 c1_i32_214 k0_t22
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t23
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![2, v344.toNat, v345.toNat]
def k0_off75 (k0_t22 : Fin k0_t22_loop.trips) (k0_t23 : Fin k0_t23_loop.trips) : Fin 1 → Nat :=
  let c17920_i32_356 : BitVec 32 := 17920#32
  let c0_i32_335 : BitVec 32 := 0#32
  let c0_i32_212 : BitVec 32 := 0#32
  let c1_i32_214 : BitVec 32 := 1#32
  let arg11 : BitVec 32 := Scf.iv c0_i32_212 c1_i32_214 k0_t22
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c17920_i32_356 v348
  let c0_i32_340 : BitVec 32 := 0#32
  let c0_i32_336 : BitVec 32 := 0#32
  let c1_i32_337 : BitVec 32 := 1#32
  let arg12 : BitVec 32 := Scf.iv c0_i32_336 c1_i32_337 k0_t23
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk43 (v358 : IVec S16 32) (v360 : IVec S16 32) : Prop :=
  (∀ a x, ((![v358, v360] : Fin 2 → IVec S16 32) a x).toNat < S224x224.size a)
theorem k0_idx43_inb : ∀ (v358 : IVec S16 32) (v360 : IVec S16 32) (k0_hw43 : k0_chk43 v358 v360), ∀ a x, ((![v358, v360] : Fin 2 → IVec S16 32) a x).toNat < S224x224.size a := fun v358 v360 k0_hw43 => k0_hw43
def k0_off76 (k0_t22 : Fin k0_t22_loop.trips) (k0_t23 : Fin k0_t23_loop.trips) : Fin 3 → Nat :=
  let c2_i32_363 : BitVec 32 := 2#32
  let v364 : Index := Scalar.indexCast c2_i32_363
  let c0_i32_335 : BitVec 32 := 0#32
  let c0_i32_212 : BitVec 32 := 0#32
  let c1_i32_214 : BitVec 32 := 1#32
  let arg11 : BitVec 32 := Scf.iv c0_i32_212 c1_i32_214 k0_t22
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t23
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![2, v365.toNat, v366.toNat]

def k0_chk44 (v369 : IVec S16 32) (v371 : IVec S16 32) : Prop :=
  (∀ a x, ((![v369, v371] : Fin 2 → IVec S16 32) a x).toNat < S224x224.size a)
theorem k0_idx44_inb : ∀ (v369 : IVec S16 32) (v371 : IVec S16 32) (k0_hw44 : k0_chk44 v369 v371), ∀ a x, ((![v369, v371] : Fin 2 → IVec S16 32) a x).toNat < S224x224.size a := fun v369 v371 k0_hw44 => k0_hw44
def k0_off77 (k0_t22 : Fin k0_t22_loop.trips) (k0_t23 : Fin k0_t23_loop.trips) : Fin 3 → Nat :=
  let c2_i32_369 : BitVec 32 := 2#32
  let v376 : Index := Scalar.indexCast c2_i32_369
  let c0_i32_335 : BitVec 32 := 0#32
  let c0_i32_212 : BitVec 32 := 0#32
  let c1_i32_214 : BitVec 32 := 1#32
  let arg11 : BitVec 32 := Scf.iv c0_i32_212 c1_i32_214 k0_t22
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t23
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![2, v377.toNat, v378.toNat]
def k0_off78 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c160_i32 : BitVec 32 := 160#32
  let c0_i32_220 : BitVec 32 := 0#32
  ![v6.toNat, 160, 0]
@[reducible] def k0_t24_loop : Scf.Loop 32 :=
  let c0_i32_235 : BitVec 32 := 0#32
  let c8_i32_236 : BitVec 32 := 8#32
  let v216 : BitVec 32 := Scalar.addi c0_i32_235 c8_i32_236
  let c1_i32_237 : BitVec 32 := 1#32
  ⟨c0_i32_235, v216, c1_i32_237⟩
@[reducible] def k0_t25_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off79 (k0_t24 : Fin k0_t24_loop.trips) (k0_t25 : Fin k0_t25_loop.trips) : Fin 1 → Nat :=
  let c19712_i32 : BitVec 32 := 19712#32
  let c0_i32_335 : BitVec 32 := 0#32
  let c0_i32_235 : BitVec 32 := 0#32
  let c1_i32_237 : BitVec 32 := 1#32
  let arg11 : BitVec 32 := Scf.iv c0_i32_235 c1_i32_237 k0_t24
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c19712_i32 v315
  let c0_i32_340 : BitVec 32 := 0#32
  let c0_i32_336 : BitVec 32 := 0#32
  let c1_i32_337 : BitVec 32 := 1#32
  let arg12 : BitVec 32 := Scf.iv c0_i32_336 c1_i32_337 k0_t25
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk45 (v325 : IVec S16 32) (v327 : IVec S16 32) : Prop :=
  (∀ a x, ((![v325, v327] : Fin 2 → IVec S16 32) a x).toNat < S224x224.size a)
theorem k0_idx45_inb : ∀ (v325 : IVec S16 32) (v327 : IVec S16 32) (k0_hw45 : k0_chk45 v325 v327), ∀ a x, ((![v325, v327] : Fin 2 → IVec S16 32) a x).toNat < S224x224.size a := fun v325 v327 k0_hw45 => k0_hw45
def k0_off80 (k0_t24 : Fin k0_t24_loop.trips) (k0_t25 : Fin k0_t25_loop.trips) : Fin 3 → Nat :=
  let c3_i32_347 : BitVec 32 := 3#32
  let v331 : Index := Scalar.indexCast c3_i32_347
  let c0_i32_335 : BitVec 32 := 0#32
  let c0_i32_235 : BitVec 32 := 0#32
  let c1_i32_237 : BitVec 32 := 1#32
  let arg11 : BitVec 32 := Scf.iv c0_i32_235 c1_i32_237 k0_t24
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t25
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![3, v332.toNat, v333.toNat]

def k0_chk46 (v336 : IVec S16 32) (v338 : IVec S16 32) : Prop :=
  (∀ a x, ((![v336, v338] : Fin 2 → IVec S16 32) a x).toNat < S224x224.size a)
theorem k0_idx46_inb : ∀ (v336 : IVec S16 32) (v338 : IVec S16 32) (k0_hw46 : k0_chk46 v336 v338), ∀ a x, ((![v336, v338] : Fin 2 → IVec S16 32) a x).toNat < S224x224.size a := fun v336 v338 k0_hw46 => k0_hw46
def k0_off81 (k0_t24 : Fin k0_t24_loop.trips) (k0_t25 : Fin k0_t25_loop.trips) : Fin 3 → Nat :=
  let c3_i32_353 : BitVec 32 := 3#32
  let v343 : Index := Scalar.indexCast c3_i32_353
  let c0_i32_335 : BitVec 32 := 0#32
  let c0_i32_235 : BitVec 32 := 0#32
  let c1_i32_237 : BitVec 32 := 1#32
  let arg11 : BitVec 32 := Scf.iv c0_i32_235 c1_i32_237 k0_t24
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t25
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![3, v344.toNat, v345.toNat]
def k0_off82 (k0_t24 : Fin k0_t24_loop.trips) (k0_t25 : Fin k0_t25_loop.trips) : Fin 1 → Nat :=
  let c19712_i32_356 : BitVec 32 := 19712#32
  let c0_i32_335 : BitVec 32 := 0#32
  let c0_i32_235 : BitVec 32 := 0#32
  let c1_i32_237 : BitVec 32 := 1#32
  let arg11 : BitVec 32 := Scf.iv c0_i32_235 c1_i32_237 k0_t24
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c19712_i32_356 v348
  let c0_i32_340 : BitVec 32 := 0#32
  let c0_i32_336 : BitVec 32 := 0#32
  let c1_i32_337 : BitVec 32 := 1#32
  let arg12 : BitVec 32 := Scf.iv c0_i32_336 c1_i32_337 k0_t25
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk47 (v358 : IVec S16 32) (v360 : IVec S16 32) : Prop :=
  (∀ a x, ((![v358, v360] : Fin 2 → IVec S16 32) a x).toNat < S224x224.size a)
theorem k0_idx47_inb : ∀ (v358 : IVec S16 32) (v360 : IVec S16 32) (k0_hw47 : k0_chk47 v358 v360), ∀ a x, ((![v358, v360] : Fin 2 → IVec S16 32) a x).toNat < S224x224.size a := fun v358 v360 k0_hw47 => k0_hw47
def k0_off83 (k0_t24 : Fin k0_t24_loop.trips) (k0_t25 : Fin k0_t25_loop.trips) : Fin 3 → Nat :=
  let c3_i32_363 : BitVec 32 := 3#32
  let v364 : Index := Scalar.indexCast c3_i32_363
  let c0_i32_335 : BitVec 32 := 0#32
  let c0_i32_235 : BitVec 32 := 0#32
  let c1_i32_237 : BitVec 32 := 1#32
  let arg11 : BitVec 32 := Scf.iv c0_i32_235 c1_i32_237 k0_t24
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t25
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![3, v365.toNat, v366.toNat]

def k0_chk48 (v369 : IVec S16 32) (v371 : IVec S16 32) : Prop :=
  (∀ a x, ((![v369, v371] : Fin 2 → IVec S16 32) a x).toNat < S224x224.size a)
theorem k0_idx48_inb : ∀ (v369 : IVec S16 32) (v371 : IVec S16 32) (k0_hw48 : k0_chk48 v369 v371), ∀ a x, ((![v369, v371] : Fin 2 → IVec S16 32) a x).toNat < S224x224.size a := fun v369 v371 k0_hw48 => k0_hw48
def k0_off84 (k0_t24 : Fin k0_t24_loop.trips) (k0_t25 : Fin k0_t25_loop.trips) : Fin 3 → Nat :=
  let c3_i32_369 : BitVec 32 := 3#32
  let v376 : Index := Scalar.indexCast c3_i32_369
  let c0_i32_335 : BitVec 32 := 0#32
  let c0_i32_235 : BitVec 32 := 0#32
  let c1_i32_237 : BitVec 32 := 1#32
  let arg11 : BitVec 32 := Scf.iv c0_i32_235 c1_i32_237 k0_t24
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t25
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![3, v377.toNat, v378.toNat]
def k0_off85 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c176_i32 : BitVec 32 := 176#32
  let c0_i32_243 : BitVec 32 := 0#32
  ![v6.toNat, 176, 0]
@[reducible] def k0_t26_loop : Scf.Loop 32 :=
  let c0_i32_258 : BitVec 32 := 0#32
  let c8_i32_259 : BitVec 32 := 8#32
  let v237 : BitVec 32 := Scalar.addi c0_i32_258 c8_i32_259
  let c1_i32_260 : BitVec 32 := 1#32
  ⟨c0_i32_258, v237, c1_i32_260⟩
@[reducible] def k0_t27_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off86 (k0_t26 : Fin k0_t26_loop.trips) (k0_t27 : Fin k0_t27_loop.trips) : Fin 1 → Nat :=
  let c21504_i32 : BitVec 32 := 21504#32
  let c0_i32_335 : BitVec 32 := 0#32
  let c0_i32_258 : BitVec 32 := 0#32
  let c1_i32_260 : BitVec 32 := 1#32
  let arg11 : BitVec 32 := Scf.iv c0_i32_258 c1_i32_260 k0_t26
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c21504_i32 v315
  let c0_i32_340 : BitVec 32 := 0#32
  let c0_i32_336 : BitVec 32 := 0#32
  let c1_i32_337 : BitVec 32 := 1#32
  let arg12 : BitVec 32 := Scf.iv c0_i32_336 c1_i32_337 k0_t27
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk49 (v325 : IVec S16 32) (v327 : IVec S16 32) : Prop :=
  (∀ a x, ((![v325, v327] : Fin 2 → IVec S16 32) a x).toNat < S224x224.size a)
theorem k0_idx49_inb : ∀ (v325 : IVec S16 32) (v327 : IVec S16 32) (k0_hw49 : k0_chk49 v325 v327), ∀ a x, ((![v325, v327] : Fin 2 → IVec S16 32) a x).toNat < S224x224.size a := fun v325 v327 k0_hw49 => k0_hw49
def k0_off87 (k0_t26 : Fin k0_t26_loop.trips) (k0_t27 : Fin k0_t27_loop.trips) : Fin 3 → Nat :=
  let c0_i32_347 : BitVec 32 := 0#32
  let v331 : Index := Scalar.indexCast c0_i32_347
  let c0_i32_335 : BitVec 32 := 0#32
  let c0_i32_258 : BitVec 32 := 0#32
  let c1_i32_260 : BitVec 32 := 1#32
  let arg11 : BitVec 32 := Scf.iv c0_i32_258 c1_i32_260 k0_t26
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t27
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![0, v332.toNat, v333.toNat]

def k0_chk50 (v336 : IVec S16 32) (v338 : IVec S16 32) : Prop :=
  (∀ a x, ((![v336, v338] : Fin 2 → IVec S16 32) a x).toNat < S224x224.size a)
theorem k0_idx50_inb : ∀ (v336 : IVec S16 32) (v338 : IVec S16 32) (k0_hw50 : k0_chk50 v336 v338), ∀ a x, ((![v336, v338] : Fin 2 → IVec S16 32) a x).toNat < S224x224.size a := fun v336 v338 k0_hw50 => k0_hw50
def k0_off88 (k0_t26 : Fin k0_t26_loop.trips) (k0_t27 : Fin k0_t27_loop.trips) : Fin 3 → Nat :=
  let c0_i32_353 : BitVec 32 := 0#32
  let v343 : Index := Scalar.indexCast c0_i32_353
  let c0_i32_335 : BitVec 32 := 0#32
  let c0_i32_258 : BitVec 32 := 0#32
  let c1_i32_260 : BitVec 32 := 1#32
  let arg11 : BitVec 32 := Scf.iv c0_i32_258 c1_i32_260 k0_t26
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t27
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![0, v344.toNat, v345.toNat]
def k0_off89 (k0_t26 : Fin k0_t26_loop.trips) (k0_t27 : Fin k0_t27_loop.trips) : Fin 1 → Nat :=
  let c21504_i32_356 : BitVec 32 := 21504#32
  let c0_i32_335 : BitVec 32 := 0#32
  let c0_i32_258 : BitVec 32 := 0#32
  let c1_i32_260 : BitVec 32 := 1#32
  let arg11 : BitVec 32 := Scf.iv c0_i32_258 c1_i32_260 k0_t26
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c21504_i32_356 v348
  let c0_i32_340 : BitVec 32 := 0#32
  let c0_i32_336 : BitVec 32 := 0#32
  let c1_i32_337 : BitVec 32 := 1#32
  let arg12 : BitVec 32 := Scf.iv c0_i32_336 c1_i32_337 k0_t27
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk51 (v358 : IVec S16 32) (v360 : IVec S16 32) : Prop :=
  (∀ a x, ((![v358, v360] : Fin 2 → IVec S16 32) a x).toNat < S224x224.size a)
theorem k0_idx51_inb : ∀ (v358 : IVec S16 32) (v360 : IVec S16 32) (k0_hw51 : k0_chk51 v358 v360), ∀ a x, ((![v358, v360] : Fin 2 → IVec S16 32) a x).toNat < S224x224.size a := fun v358 v360 k0_hw51 => k0_hw51
def k0_off90 (k0_t26 : Fin k0_t26_loop.trips) (k0_t27 : Fin k0_t27_loop.trips) : Fin 3 → Nat :=
  let c0_i32_363 : BitVec 32 := 0#32
  let v364 : Index := Scalar.indexCast c0_i32_363
  let c0_i32_335 : BitVec 32 := 0#32
  let c0_i32_258 : BitVec 32 := 0#32
  let c1_i32_260 : BitVec 32 := 1#32
  let arg11 : BitVec 32 := Scf.iv c0_i32_258 c1_i32_260 k0_t26
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t27
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![0, v365.toNat, v366.toNat]

def k0_chk52 (v369 : IVec S16 32) (v371 : IVec S16 32) : Prop :=
  (∀ a x, ((![v369, v371] : Fin 2 → IVec S16 32) a x).toNat < S224x224.size a)
theorem k0_idx52_inb : ∀ (v369 : IVec S16 32) (v371 : IVec S16 32) (k0_hw52 : k0_chk52 v369 v371), ∀ a x, ((![v369, v371] : Fin 2 → IVec S16 32) a x).toNat < S224x224.size a := fun v369 v371 k0_hw52 => k0_hw52
def k0_off91 (k0_t26 : Fin k0_t26_loop.trips) (k0_t27 : Fin k0_t27_loop.trips) : Fin 3 → Nat :=
  let c0_i32_369 : BitVec 32 := 0#32
  let v376 : Index := Scalar.indexCast c0_i32_369
  let c0_i32_335 : BitVec 32 := 0#32
  let c0_i32_258 : BitVec 32 := 0#32
  let c1_i32_260 : BitVec 32 := 1#32
  let arg11 : BitVec 32 := Scf.iv c0_i32_258 c1_i32_260 k0_t26
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t27
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![0, v377.toNat, v378.toNat]
def k0_off92 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c192_i32 : BitVec 32 := 192#32
  let c0_i32_266 : BitVec 32 := 0#32
  ![v6.toNat, 192, 0]
@[reducible] def k0_t28_loop : Scf.Loop 32 :=
  let c0_i32_281 : BitVec 32 := 0#32
  let c8_i32_282 : BitVec 32 := 8#32
  let v258 : BitVec 32 := Scalar.addi c0_i32_281 c8_i32_282
  let c1_i32_283 : BitVec 32 := 1#32
  ⟨c0_i32_281, v258, c1_i32_283⟩
@[reducible] def k0_t29_loop : Scf.Loop 32 :=
  let c0_i32_336 : BitVec 32 := 0#32
  let c7_i32 : BitVec 32 := 7#32
  let v311 : BitVec 32 := Scalar.addi c0_i32_336 c7_i32
  let c1_i32_337 : BitVec 32 := 1#32
  ⟨c0_i32_336, v311, c1_i32_337⟩
def k0_off93 (k0_t28 : Fin k0_t28_loop.trips) (k0_t29 : Fin k0_t29_loop.trips) : Fin 1 → Nat :=
  let c23296_i32 : BitVec 32 := 23296#32
  let c0_i32_335 : BitVec 32 := 0#32
  let c0_i32_281 : BitVec 32 := 0#32
  let c1_i32_283 : BitVec 32 := 1#32
  let arg11 : BitVec 32 := Scf.iv c0_i32_281 c1_i32_283 k0_t28
  let c2_i32_334 : BitVec 32 := 2#32
  let v309 : BitVec 32 := Scalar.muli arg11 c2_i32_334
  let v310 : BitVec 32 := Scalar.addi c0_i32_335 v309
  let c0_i32_341 : BitVec 32 := 0#32
  let v314 : BitVec 32 := Scalar.addi v310 c0_i32_341
  let c112_i32_342 : BitVec 32 := 112#32
  let v315 : BitVec 32 := Scalar.muli v314 c112_i32_342
  let v316 : BitVec 32 := Scalar.addi c23296_i32 v315
  let c0_i32_340 : BitVec 32 := 0#32
  let c0_i32_336 : BitVec 32 := 0#32
  let c1_i32_337 : BitVec 32 := 1#32
  let arg12 : BitVec 32 := Scf.iv c0_i32_336 c1_i32_337 k0_t29
  let c16_i32_339 : BitVec 32 := 16#32
  let v312 : BitVec 32 := Scalar.muli arg12 c16_i32_339
  let v313 : BitVec 32 := Scalar.addi c0_i32_340 v312
  let v317 : BitVec 32 := Scalar.addi v316 v313
  let v318 : Index := Scalar.indexCast v317
  ![v318.toNat]

def k0_chk53 (v325 : IVec S16 32) (v327 : IVec S16 32) : Prop :=
  (∀ a x, ((![v325, v327] : Fin 2 → IVec S16 32) a x).toNat < S224x224.size a)
theorem k0_idx53_inb : ∀ (v325 : IVec S16 32) (v327 : IVec S16 32) (k0_hw53 : k0_chk53 v325 v327), ∀ a x, ((![v325, v327] : Fin 2 → IVec S16 32) a x).toNat < S224x224.size a := fun v325 v327 k0_hw53 => k0_hw53
def k0_off94 (k0_t28 : Fin k0_t28_loop.trips) (k0_t29 : Fin k0_t29_loop.trips) : Fin 3 → Nat :=
  let c1_i32_347 : BitVec 32 := 1#32
  let v331 : Index := Scalar.indexCast c1_i32_347
  let c0_i32_335 : BitVec 32 := 0#32
  let c0_i32_281 : BitVec 32 := 0#32
  let c1_i32_283 : BitVec 32 := 1#32
  let arg11 : BitVec 32 := Scf.iv c0_i32_281 c1_i32_283 k0_t28
  let c2_i32_334 : BitVec 32 := 2#32
  let v309 : BitVec 32 := Scalar.muli arg11 c2_i32_334
  let v310 : BitVec 32 := Scalar.addi c0_i32_335 v309
  let c0_i32_345 : BitVec 32 := 0#32
  let v329 : BitVec 32 := Scalar.addi v310 c0_i32_345
  let v332 : Index := Scalar.indexCast v329
  let c2_i32_346 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t29
  let c16_i32_339 : BitVec 32 := 16#32
  let v312 : BitVec 32 := Scalar.muli arg12 c16_i32_339
  let v313 : BitVec 32 := Scalar.addi c0_i32_340 v312
  let v330 : BitVec 32 := Scalar.muli c2_i32_346 v313
  let v333 : Index := Scalar.indexCast v330
  ![1, v332.toNat, v333.toNat]

def k0_chk54 (v336 : IVec S16 32) (v338 : IVec S16 32) : Prop :=
  (∀ a x, ((![v336, v338] : Fin 2 → IVec S16 32) a x).toNat < S224x224.size a)
theorem k0_idx54_inb : ∀ (v336 : IVec S16 32) (v338 : IVec S16 32) (k0_hw54 : k0_chk54 v336 v338), ∀ a x, ((![v336, v338] : Fin 2 → IVec S16 32) a x).toNat < S224x224.size a := fun v336 v338 k0_hw54 => k0_hw54
def k0_off95 (k0_t28 : Fin k0_t28_loop.trips) (k0_t29 : Fin k0_t29_loop.trips) : Fin 3 → Nat :=
  let c1_i32_353 : BitVec 32 := 1#32
  let v343 : Index := Scalar.indexCast c1_i32_353
  let c0_i32_335 : BitVec 32 := 0#32
  let c0_i32_281 : BitVec 32 := 0#32
  let c1_i32_283 : BitVec 32 := 1#32
  let arg11 : BitVec 32 := Scf.iv c0_i32_281 c1_i32_283 k0_t28
  let c2_i32_334 : BitVec 32 := 2#32
  let v309 : BitVec 32 := Scalar.muli arg11 c2_i32_334
  let v310 : BitVec 32 := Scalar.addi c0_i32_335 v309
  let c0_i32_350 : BitVec 32 := 0#32
  let v340 : BitVec 32 := Scalar.addi v310 c0_i32_350
  let v344 : Index := Scalar.indexCast v340
  let c2_i32_351 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t29
  let c16_i32_339 : BitVec 32 := 16#32
  let v312 : BitVec 32 := Scalar.muli arg12 c16_i32_339
  let v313 : BitVec 32 := Scalar.addi c0_i32_340 v312
  let v341 : BitVec 32 := Scalar.muli c2_i32_351 v313
  let c16_i32_352 : BitVec 32 := 16#32
  let v342 : BitVec 32 := Scalar.addi v341 c16_i32_352
  let v345 : Index := Scalar.indexCast v342
  ![1, v344.toNat, v345.toNat]
def k0_off96 (k0_t28 : Fin k0_t28_loop.trips) (k0_t29 : Fin k0_t29_loop.trips) : Fin 1 → Nat :=
  let c23296_i32_356 : BitVec 32 := 23296#32
  let c0_i32_335 : BitVec 32 := 0#32
  let c0_i32_281 : BitVec 32 := 0#32
  let c1_i32_283 : BitVec 32 := 1#32
  let arg11 : BitVec 32 := Scf.iv c0_i32_281 c1_i32_283 k0_t28
  let c2_i32_334 : BitVec 32 := 2#32
  let v309 : BitVec 32 := Scalar.muli arg11 c2_i32_334
  let v310 : BitVec 32 := Scalar.addi c0_i32_335 v309
  let c1_i32_354 : BitVec 32 := 1#32
  let v347 : BitVec 32 := Scalar.addi v310 c1_i32_354
  let c112_i32_355 : BitVec 32 := 112#32
  let v348 : BitVec 32 := Scalar.muli v347 c112_i32_355
  let v349 : BitVec 32 := Scalar.addi c23296_i32_356 v348
  let c0_i32_340 : BitVec 32 := 0#32
  let c0_i32_336 : BitVec 32 := 0#32
  let c1_i32_337 : BitVec 32 := 1#32
  let arg12 : BitVec 32 := Scf.iv c0_i32_336 c1_i32_337 k0_t29
  let c16_i32_339 : BitVec 32 := 16#32
  let v312 : BitVec 32 := Scalar.muli arg12 c16_i32_339
  let v313 : BitVec 32 := Scalar.addi c0_i32_340 v312
  let v350 : BitVec 32 := Scalar.addi v349 v313
  let v351 : Index := Scalar.indexCast v350
  ![v351.toNat]

def k0_chk55 (v358 : IVec S16 32) (v360 : IVec S16 32) : Prop :=
  (∀ a x, ((![v358, v360] : Fin 2 → IVec S16 32) a x).toNat < S224x224.size a)
theorem k0_idx55_inb : ∀ (v358 : IVec S16 32) (v360 : IVec S16 32) (k0_hw55 : k0_chk55 v358 v360), ∀ a x, ((![v358, v360] : Fin 2 → IVec S16 32) a x).toNat < S224x224.size a := fun v358 v360 k0_hw55 => k0_hw55
def k0_off97 (k0_t28 : Fin k0_t28_loop.trips) (k0_t29 : Fin k0_t29_loop.trips) : Fin 3 → Nat :=
  let c1_i32_363 : BitVec 32 := 1#32
  let v364 : Index := Scalar.indexCast c1_i32_363
  let c0_i32_335 : BitVec 32 := 0#32
  let c0_i32_281 : BitVec 32 := 0#32
  let c1_i32_283 : BitVec 32 := 1#32
  let arg11 : BitVec 32 := Scf.iv c0_i32_281 c1_i32_283 k0_t28
  let c2_i32_334 : BitVec 32 := 2#32
  let v309 : BitVec 32 := Scalar.muli arg11 c2_i32_334
  let v310 : BitVec 32 := Scalar.addi c0_i32_335 v309
  let c1_i32_361 : BitVec 32 := 1#32
  let v362 : BitVec 32 := Scalar.addi v310 c1_i32_361
  let v365 : Index := Scalar.indexCast v362
  let c2_i32_362 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t29
  let c16_i32_339 : BitVec 32 := 16#32
  let v312 : BitVec 32 := Scalar.muli arg12 c16_i32_339
  let v313 : BitVec 32 := Scalar.addi c0_i32_340 v312
  let v363 : BitVec 32 := Scalar.muli c2_i32_362 v313
  let v366 : Index := Scalar.indexCast v363
  ![1, v365.toNat, v366.toNat]

def k0_chk56 (v369 : IVec S16 32) (v371 : IVec S16 32) : Prop :=
  (∀ a x, ((![v369, v371] : Fin 2 → IVec S16 32) a x).toNat < S224x224.size a)
theorem k0_idx56_inb : ∀ (v369 : IVec S16 32) (v371 : IVec S16 32) (k0_hw56 : k0_chk56 v369 v371), ∀ a x, ((![v369, v371] : Fin 2 → IVec S16 32) a x).toNat < S224x224.size a := fun v369 v371 k0_hw56 => k0_hw56
def k0_off98 (k0_t28 : Fin k0_t28_loop.trips) (k0_t29 : Fin k0_t29_loop.trips) : Fin 3 → Nat :=
  let c1_i32_369 : BitVec 32 := 1#32
  let v376 : Index := Scalar.indexCast c1_i32_369
  let c0_i32_335 : BitVec 32 := 0#32
  let c0_i32_281 : BitVec 32 := 0#32
  let c1_i32_283 : BitVec 32 := 1#32
  let arg11 : BitVec 32 := Scf.iv c0_i32_281 c1_i32_283 k0_t28
  let c2_i32_334 : BitVec 32 := 2#32
  let v309 : BitVec 32 := Scalar.muli arg11 c2_i32_334
  let v310 : BitVec 32 := Scalar.addi c0_i32_335 v309
  let c1_i32_366 : BitVec 32 := 1#32
  let v373 : BitVec 32 := Scalar.addi v310 c1_i32_366
  let v377 : Index := Scalar.indexCast v373
  let c2_i32_367 : BitVec 32 := 2#32
  let c0_i32_340 : BitVec 32 := 0#32
  let c0_i32_336 : BitVec 32 := 0#32
  let c1_i32_337 : BitVec 32 := 1#32
  let arg12 : BitVec 32 := Scf.iv c0_i32_336 c1_i32_337 k0_t29
  let c16_i32_339 : BitVec 32 := 16#32
  let v312 : BitVec 32 := Scalar.muli arg12 c16_i32_339
  let v313 : BitVec 32 := Scalar.addi c0_i32_340 v312
  let v374 : BitVec 32 := Scalar.muli c2_i32_367 v313
  let c16_i32_368 : BitVec 32 := 16#32
  let v375 : BitVec 32 := Scalar.addi v374 c16_i32_368
  let v378 : Index := Scalar.indexCast v375
  ![1, v377.toNat, v378.toNat]
def k0_off99 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32 : BitVec 32 := 0#32
  let c1_i32 : BitVec 32 := 1#32
  let arg10 : BitVec 32 := Scf.iv c0_i32 c1_i32 k0_t1
  let c1_i32_2 : BitVec 32 := 1#32
  let v4 : BitVec 32 := Scalar.muli arg10 c1_i32_2
  let v5 : BitVec 32 := Scalar.addi c0_i32_3 v4
  let v6 : BitVec 32 := Scalar.addi v2 v5
  let c208_i32 : BitVec 32 := 208#32
  let c0_i32_289 : BitVec 32 := 0#32
  ![v6.toNat, 208, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x192x224x224 : Shape := ⟨4, ![8, 192, 224, 224]⟩
abbrev S50176 : Shape := ⟨1, ![50176]⟩
abbrev S8x192x50176 : Shape := ⟨3, ![8, 192, 50176]⟩
abbrev S_ : Shape := ⟨0, ![]⟩
abbrev S50176x1 : Shape := ⟨2, ![50176, 1]⟩
abbrev S1 : Shape := ⟨1, ![1]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x192x224x224, .f32⟩
  | .hbm, ⟨1, _⟩ => ⟨S50176, .i32⟩
  | .hbm, ⟨2, _⟩ => ⟨S8x192x50176, .f32⟩
  | .hbm, ⟨3, _⟩ => ⟨S_, .i32⟩
  | .hbm, ⟨4, _⟩ => ⟨S50176, .i32⟩
  | .hbm, ⟨5, _⟩ => ⟨S50176, .i1⟩
  | .hbm, ⟨6, _⟩ => ⟨S_, .i32⟩
  | .hbm, ⟨7, _⟩ => ⟨S50176, .i32⟩
  | .hbm, ⟨8, _⟩ => ⟨S50176, .i32⟩
  | .hbm, ⟨9, _⟩ => ⟨S50176, .i32⟩
  | .hbm, ⟨10, _⟩ => ⟨S50176x1, .i32⟩
  | .hbm, ⟨11, _⟩ => ⟨S1, .i32⟩
  | .hbm, ⟨12, _⟩ => ⟨S_, .i32⟩
  | .hbm, ⟨13, _⟩ => ⟨S50176x1, .i32⟩
  | .hbm, ⟨14, _⟩ => ⟨S50176x1, .i1⟩
  | .hbm, ⟨15, _⟩ => ⟨S1x1, .i32⟩
  | .hbm, ⟨16, _⟩ => ⟨S50176x1, .i32⟩
  | .hbm, ⟨17, _⟩ => ⟨S50176x1, .i1⟩
  | .hbm, ⟨18, _⟩ => ⟨S50176x1, .i1⟩
  | .hbm, ⟨19, _⟩ => ⟨S_, .i1⟩
  | .hbm, ⟨20, _⟩ => ⟨S50176, .i1⟩
  | .hbm, ⟨21, _⟩ => ⟨S8x192x50176, .f32⟩
  | .hbm, ⟨22, _⟩ => ⟨S8x192x50176, .i1⟩
  | .hbm, ⟨23, _⟩ => ⟨S_, .f32⟩
  | .hbm, ⟨24, _⟩ => ⟨S8x192x50176, .f32⟩
  | .hbm, ⟨25, _⟩ => ⟨S8x192x50176, .f32⟩
  | .hbm, ⟨26, _⟩ => ⟨S8x192x224x224, .f32⟩
  | _, _ => ⟨S8x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Setup.lean ====
/-
  The names the proof of the gather kernel is written over: the program's SparseCore configuration, the
  resource algebra, the buffers of one tile, and the plain functions that say what a tile computes — the code
  word of an output position and the element of a row the code word names.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.Pipeline.Kit
public import Idealize.ShloMosaic.Lib.StableHlo.Run
public import Idealize.ShloMosaic.Lib.Writes
public import Idealize.ShloMosaic.Lib.Scf
public import Idealize.ShloMosaic.Lib.Tactic
public import proofs.«01_k».proof.Proof.Gen.KernelIdeal

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## What a tile computes -/

/-- The packed word at position `n` of the code list (positions past the end wrap, so the function is total). -/
def at1 (n : Nat) : S25088.Idx := fun a => ⟨n % S25088.size a, Nat.mod_lt _ (by revert a; decide)⟩

/-- The cell of a row's plane that a pair of words names (words past the edge wrap). -/
def cell (v w : BitVec 32) : S224x224.Idx :=
  fun a => ⟨((![v, w] : Fin 2 → BitVec 32) a).toNat % S224x224.size a, Nat.mod_lt _ (by revert a; decide)⟩

/-- The two codes a packed word holds. -/
def loCode (c : BitVec 32) : BitVec 32 := IntOp.andi c 65535#32
def hiCode (c : BitVec 32) : BitVec 32 := IntOp.shrui .vector c 16#32

/-- The element of a row that a code names: its high byte the line, its low byte the column. -/
def pick {α : Type} (R : S224x224.Idx → α) (c : BitVec 32) : α :=
  R (cell (IntOp.shrui .vector c 8#32) (IntOp.andi c 255#32))

/-- A code names a cell of the plane. -/
def okCode (c : BitVec 32) : Prop :=
  (IntOp.shrui .vector c 8#32).toNat < 224 ∧ (IntOp.andi c 255#32).toNat < 224

/-- Every code of the list names a cell of the plane. -/
def okCodes (C : S25088.Idx → BitVec 32) : Prop := ∀ q, okCode (loCode (C q)) ∧ okCode (hiCode (C q))

/-- The code of output position `(y, w)`: sixteen consecutive positions take the low halves of sixteen words,
    the next sixteen their high halves. -/
def codeAt (C : S25088.Idx → BitVec 32) (y w : Nat) : BitVec 32 :=
  if w / 16 % 2 = 0 then loCode (C (at1 (112 * y + 16 * (w / 32) + w % 16)))
  else hiCode (C (at1 (112 * y + 16 * (w / 32) + w % 16)))

/-- The value of output position `(y, w)` of a row. -/
def planeVal {α : Type} (C : S25088.Idx → BitVec 32) (R : S224x224.Idx → α) (y w : Nat) : α := pick R (codeAt C y w)

/-- Element `(r, y, w)` of the array of planes (coordinates past the edge wrap). -/
def at3 (r y w : Nat) : S1536x224x224.Idx :=
  fun a => ⟨(![r, y, w] : Fin 3 → Nat) a % S1536x224x224.size a, Nat.mod_lt _ (by revert a; decide)⟩

/-- Plane `r` of the array. -/
def rowOf {α : Type} (X : S1536x224x224.Idx → α) (r : Nat) : S224x224.Idx → α := fun y => X (at3 r (y 0).val (y 1).val)

/-- What the whole launch computes: every plane gathered through the codes. -/
def outVal {α : Type} (C : S25088.Idx → BitVec 32) (X : S1536x224x224.Idx → α) : S1536x224x224.Idx → α :=
  fun x => planeVal C (rowOf X (x 0).val) (x 1).val (x 2).val

/-- The elements of the array of planes on lines `a` to `b`, a plane being 224 lines. -/
def lineSet (a b : Nat) : Finset S1536x224x224.Idx :=
  Finset.univ.filter fun x => a ≤ 224 * (x 0).val + (x 1).val ∧ 224 * (x 0).val + (x 1).val < b

theorem lineSet_disjoint (a b c : Nat) : Disjoint (lineSet a b) (lineSet b c) :=
  Finset.disjoint_left.mpr fun x h h' => by
    have := (Finset.mem_filter.mp h).2; have := (Finset.mem_filter.mp h').2; omega

theorem lineSet_union {a b c : Nat} (h : a ≤ b) (h' : b ≤ c) : lineSet a c = lineSet a b ∪ lineSet b c := by
  ext x
  simp only [lineSet, Finset.mem_union, Finset.mem_filter, Finset.mem_univ, true_and]
  omega

end Cert.Proof.Gather

end
-- ==== Proof.Chunk.lean ====
/-
  One chunk of a row: eight trips of seven trips, each gathering two lines of 32 elements into a slot of the
  staging buffer. The program text is written once, over the offsets the printed kernel computes, and the rule
  for it is proved once.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- The SparseCore and the subcore a grid point runs on. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

abbrev idxM : Memref sig .scVector .vmem S25088 .i32 := Memref.whole cc0_scratch0
abbrev rowM : Memref sig .scVector .vmem S224x224 .f32 := Memref.whole cc0_scratch1
abbrev outM : Memref sig .scVector .vmem S4x16x224 .f32 := Memref.whole cc0_scratch2

abbrev idxLoc (d : Dev nD) (i : grid0.Coords) : Loc nD τ sig := (thr d i).loc cc0_scratch0
abbrev rowLoc (d : Dev nD) (i : grid0.Coords) : Loc nD τ sig := (thr d i).loc cc0_scratch1
abbrev outLoc (d : Dev nD) (i : grid0.Coords) : Loc nD τ sig := (thr d i).loc cc0_scratch2

/-- The elements of slot `s` of the staging buffer. -/
def slotSet (s : Nat) : Finset S4x16x224.Idx := Finset.univ.filter fun x => (x 0).val = s

/-- Slot `s` holds the right values of chunk `k` at the positions `P`. -/
def Good (C : S25088.Idx → BitVec 32) (R : S224x224.Idx → F .f32) (k s : Nat) (P : Nat → Nat → Prop) (f : S4x16x224.Idx → F .f32) : Prop :=
  ∀ x : S4x16x224.Idx, (x 0).val = s → P (x 1).val (x 2).val → f x = planeVal C R (16 * k + (x 1).val) (x 2).val

theorem Good.mono {C : S25088.Idx → BitVec 32} {R : S224x224.Idx → F .f32} {k s : Nat} {P P' : Nat → Nat → Prop} {f : S4x16x224.Idx → F .f32}
    (h : Good C R k s P f) (hP : ∀ a b, a < 16 → b < 224 → P' a b → P a b) : Good C R k s P' f :=
  fun x h0 hp => h x h0 (hP _ _ (x 1).isLt (x 2).isLt hp)

/-- The text of one gathered line of 32: load sixteen packed words, gather by their low codes, store, gather by
    their high codes, store. -/
def halfProg (i : grid0.Coords) (o : Fin 1 → Nat) (ho : ∀ a, o a + S16.size a ≤ S25088.size a)
    (oa : Fin 3 → Nat) (hoa : ∀ a, oa a + S1x1x16.size a ≤ S4x16x224.size a)
    (ob : Fin 3 → Nat) (hob : ∀ a, ob a + S1x1x16.size a ≤ S4x16x224.size a)
    (P₁ P₂ : IVec S16 32 → IVec S16 32 → Prop) (d₁ : ∀ v w, Decidable (P₁ v w)) (d₂ : ∀ v w, Decidable (P₂ v w))
    (e₁ : ∀ v w, P₁ v w → ∀ a x, ((![v, w] : Fin 2 → IVec S16 32) a x).toNat < S224x224.size a)
    (e₂ : ∀ v w, P₂ v w → ∀ a x, ((![v, w] : Fin 2 → IVec S16 32) a x).toNat < S224x224.size a) :
    Prog (TpuEff nD τ sig (Elt F) Λ₀ (.scVector (cV i) (jV i))) PUnit := do
  let w : Vec F S16 .i32 ← Prog.lift (.load idxM (Rect.unit (s := S25088) o S16.size ho).toLoadRect (View.loadsAt_vmem h_S16))
  have l : IVec S16 32 := andi w (broadcast S16 65535#32)
  have h : IVec S16 32 := shrui w (broadcast S16 16#32)
  have l₁ : IVec S16 32 := shrui l (broadcast S16 8#32)
  have l₂ : IVec S16 32 := andi l (broadcast S16 255#32)
  have hw₁ : P₁ l₁ l₂ := (← Prog.lift (TpuEff.assume (P₁ l₁ l₂) (d₁ l₁ l₂))).down
  let a : Vec F S16 .f32 ← SparseCore.vectorLoadIdx rowM ![l₁, l₂] (e₁ l₁ l₂ hw₁) (View.loads_vmem h_S224x224)
  let _ : Vec F S1x1x16 .f32 ← Prog.lift (.load outM (Rect.unit (s := S4x16x224) oa S1x1x16.size hoa).toLoadRect (View.loadsAt_vmem h_S1x1x16))
  Prog.lift (.store outM (Rect.unit (s := S4x16x224) oa S1x1x16.size hoa) (shapeCast S1x1x16 a shapeCasts_S16_S1x1x16) Finset.univ (View.stores_vmem_bits_univ h_S1x1x16 rfl) (.inl rfl))
  have r₁ : IVec S16 32 := shrui h (broadcast S16 8#32)
  have r₂ : IVec S16 32 := andi h (broadcast S16 255#32)
  have hw₂ : P₂ r₁ r₂ := (← Prog.lift (TpuEff.assume (P₂ r₁ r₂) (d₂ r₁ r₂))).down
  let b : Vec F S16 .f32 ← SparseCore.vectorLoadIdx rowM ![r₁, r₂] (e₂ r₁ r₂ hw₂) (View.loads_vmem h_S224x224)
  let _ : Vec F S1x1x16 .f32 ← Prog.lift (.load outM (Rect.unit (s := S4x16x224) ob S1x1x16.size hob).toLoadRect (View.loadsAt_vmem h_S1x1x16))
  Prog.lift (.store outM (Rect.unit (s := S4x16x224) ob S1x1x16.size hob) (shapeCast S1x1x16 b shapeCasts_S16_S1x1x16) Finset.univ (View.stores_vmem_bits_univ h_S1x1x16 rfl) (.inl rfl))

/-- A store of sixteen elements of slot `s`, line `h`, columns from `c`, whose elements are the right values, adds
    those positions to the right ones. -/
theorem good_write (C : S25088.Idx → BitVec 32) (R : S224x224.Idx → F .f32) (k s h c : Nat) (P : Nat → Nat → Prop)
    (f : S4x16x224.Idx → F .f32) (oa : Fin 3 → Nat) (hoa : ∀ a, oa a + S1x1x16.size a ≤ S4x16x224.size a)
    (eo : oa = ![s, h, c]) (v : S1x1x16.Idx → F .f32)
    (hv : ∀ x : S1x1x16.Idx, v x = planeVal C R (16 * k + h) (c + (x 2).val)) (hf : Good C R k s P f) :
    Good C R k s (fun a b => P a b ∨ (a = h ∧ c ≤ b ∧ b < c + 16))
      ((outM.access (Rect.unit (s := S4x16x224) oa S1x1x16.size hoa)).write (Elt F) f v Finset.univ) := by
  subst eo
  intro x h0 hp
  by_cases hx : x ∈ (Rect.unit (s := S4x16x224) ![s, h, c] S1x1x16.size hoa).set
  · obtain ⟨y, rfl⟩ := LoadRect.exists_idx_of_mem _ hx
    have e := View.write_emb_of_mem (v := (outM.access (Rect.unit (s := S4x16x224) ![s, h, c] S1x1x16.size hoa))) (Val := Elt F) f v
      (M := Finset.univ) (x := y) (Finset.mem_univ _)
    refine e.trans ?_
    have h1 : (((Rect.unit (s := S4x16x224) ![s, h, c] S1x1x16.size hoa).idx y) 1).val = h + 1 * (y 1).val := rfl
    have h2 : (((Rect.unit (s := S4x16x224) ![s, h, c] S1x1x16.size hoa).idx y) 2).val = c + 1 * (y 2).val := rfl
    have y1 : (y 1).val < 1 := (y 1).isLt
    rw [h1, h2, show h + 1 * (y 1).val = h by omega, Nat.one_mul]
    exact hv y
  · have e := View.write_of_not_mem (v := (outM.access (Rect.unit (s := S4x16x224) ![s, h, c] S1x1x16.size hoa))) (Val := Elt F) f v
      Finset.univ (i := x) (by rw [View.setOn_univ]; exact fun hh => hx (by rwa [show (outM.access (Rect.unit (s := S4x16x224) ![s, h, c] S1x1x16.size hoa)).set = _ from View.set_slice_whole _ _] at hh))
    refine e.trans (hf x h0 (hp.resolve_right fun ⟨a, b, c'⟩ => hx ?_))
    rw [Rect.mem_set_unit]
    intro z
    match z with
    | 0 => exact ⟨h0.ge, by show (x 0).val < s + 1; omega⟩
    | 1 => exact ⟨a.ge, by show (x 1).val < h + 1; omega⟩
    | 2 => exact ⟨b, c'⟩

theorem lane_of (x : S1x1x16.Idx) : ((Shape.reshapeEquiv shapeCasts_S16_S1x1x16 x) 0).val = (x 2).val := by
  revert x; decide +kernel

theorem codeAt_lo (C : S25088.Idx → BitVec 32) {k h u l : Nat} (hl : l < 16) :
    codeAt C (16 * k + h) (32 * u + l) = loCode (C (at1 (1792 * k + 112 * h + 16 * u + l))) := by
  unfold codeAt
  rw [if_pos (by omega)]
  congr 3
  omega

theorem codeAt_hi (C : S25088.Idx → BitVec 32) {k h u l : Nat} (hl : l < 16) :
    codeAt C (16 * k + h) (32 * u + 16 + l) = hiCode (C (at1 (1792 * k + 112 * h + 16 * u + l))) := by
  unfold codeAt
  rw [if_neg (by omega)]
  congr 3
  omega

/-- What a gather by codes the list holds reads. -/
theorem pick_eq (R : S224x224.Idx → F .f32) (c : S16.Idx → BitVec 32) (hc : ∀ x, okCode (c x))
    (hin : ∀ a x, ((![shrui c (broadcast S16 8#32), andi c (broadcast S16 255#32)] : Fin 2 → IVec S16 32) a x).toNat < S224x224.size a) (x : S16.Idx) :
    loadIdx (F := F) (e := .f32) R ![shrui c (broadcast S16 8#32), andi c (broadcast S16 255#32)] hin x = pick R (c x) := by
  unfold loadIdx pick
  congr 1
  funext a
  match a with
  | 0 => exact Fin.ext (Nat.mod_eq_of_lt (hc x).1).symm
  | 1 => exact Fin.ext (Nat.mod_eq_of_lt (hc x).2).symm

theorem chk_of_ok (c : S16.Idx → BitVec 32) (hc : ∀ x, okCode (c x)) :
    ∀ a x, ((![shrui c (broadcast S16 8#32), andi c (broadcast S16 255#32)] : Fin 2 → IVec S16 32) a x).toNat < S224x224.size a := by
  intro a x
  match a with
  | 0 => exact (hc x).1
  | 1 => exact (hc x).2

/-- The positions of line `h` and of the 32 columns from `32 u`, beside `P`. -/
abbrev addLine (P : Nat → Nat → Prop) (h u : Nat) : Nat → Nat → Prop := fun a b => P a b ∨ (a = h ∧ 32 * u ≤ b ∧ b < 32 * u + 32)

/-- What the tile's buffers hold while slot `s` is being filled with chunk `k`. -/
def fill (d : Dev nD) (i : grid0.Coords) (C : S25088.Idx → BitVec 32) (R : S224x224.Idx → F .f32) (k s : Nat) (P : Nat → Nat → Prop) : sProp 𝕄 :=
  iprop((idxLoc d i ↦{fullShare} C) ∗ (rowLoc d i ↦{fullShare} R) ∗ ∃ f, ⌜Good C R k s P f⌝ ∗ (outLoc d i ↦[slotSet s]{fullShare} f))

theorem access_set_subset {s h c : Nat} (oa : Fin 3 → Nat) (hoa : ∀ a, oa a + S1x1x16.size a ≤ S4x16x224.size a) (eo : oa = ![s, h, c]) :
    (outM.access (Rect.unit (s := S4x16x224) oa S1x1x16.size hoa)).set ⊆ slotSet s := by
  subst eo
  rw [show (outM.access (Rect.unit (s := S4x16x224) ![s, h, c] S1x1x16.size hoa)).set = _ from View.set_slice_whole _ _]
  intro x hx
  have := (Rect.mem_set_unit.mp hx) 0
  have h1 : s ≤ (x 0).val := this.1
  have h2 : (x 0).val < s + 1 := this.2
  exact Finset.mem_filter.mpr ⟨Finset.mem_univ _, by omega⟩

theorem half_wp (d : Dev nD) (i : grid0.Coords) (C : S25088.Idx → BitVec 32) (hC : okCodes C) (R : S224x224.Idx → F .f32)
    (k s h u : Nat) (P : Nat → Nat → Prop)
    (o : Fin 1 → Nat) (ho : ∀ a, o a + S16.size a ≤ S25088.size a)
    (oa : Fin 3 → Nat) (hoa : ∀ a, oa a + S1x1x16.size a ≤ S4x16x224.size a)
    (ob : Fin 3 → Nat) (hob : ∀ a, ob a + S1x1x16.size a ≤ S4x16x224.size a)
    (P₁ P₂ : IVec S16 32 → IVec S16 32 → Prop) (d₁ : ∀ v w, Decidable (P₁ v w)) (d₂ : ∀ v w, Decidable (P₂ v w))
    (e₁ : ∀ v w, P₁ v w → ∀ a x, ((![v, w] : Fin 2 → IVec S16 32) a x).toNat < S224x224.size a)
    (e₂ : ∀ v w, P₂ v w → ∀ a x, ((![v, w] : Fin 2 → IVec S16 32) a x).toNat < S224x224.size a)
    (g₁ : ∀ v w, (∀ a x, ((![v, w] : Fin 2 → IVec S16 32) a x).toNat < S224x224.size a) → P₁ v w)
    (g₂ : ∀ v w, (∀ a x, ((![v, w] : Fin 2 → IVec S16 32) a x).toNat < S224x224.size a) → P₂ v w)
    (eo : o = ![1792 * k + 112 * h + 16 * u]) (ea : oa = ![s, h, 32 * u]) (eb : ob = ![s, h, 32 * u + 16]) :
    fill d i C R k s P
      ⊢ wp frame (wpE (defs₀ (F := F)) 𝒱₀ (thr d i) none) Set.univ (halfProg i o ho oa hoa ob hob P₁ P₂ d₁ d₂ e₁ e₂)
          fun _ => fill d i C R k s (addLine P h u) := by
  have hw : ∀ x : S16.Idx, idxM.view.readAt (Elt F) (Rect.unit (s := S25088) o S16.size ho).toLoadRect C x = C (at1 (1792 * k + 112 * h + 16 * u + (x 0).val)) := by
    subst eo
    intro x
    show C _ = C _
    congr 1
    funext a
    match a with
    | 0 =>
      have hx : (x 0).val < 16 := (x 0).isLt
      have h0 : (1792 * k + 112 * h + 16 * u) + 16 ≤ 25088 := ho 0
      refine Fin.ext ?_
      show (1792 * k + 112 * h + 16 * u) + 1 * (x 0).val = (1792 * k + 112 * h + 16 * u + (x 0).val) % 25088
      rw [Nat.mod_eq_of_lt (by omega)]; omega
  unfold fill halfProg
  simp only [Prog.lift, Prog.bind_op, Prog.bind_ret, Prog.pure_eq_ret]
  generalize hwv : idxM.view.readAt (Elt F) (Rect.unit (s := S25088) o S16.size ho).toLoadRect C = w at hw
  have hlo : ∀ x, okCode ((andi w (broadcast S16 65535#32) : IVec S16 32) x) := fun x => by
    show okCode (loCode (w x)); rw [hw]; exact (hC _).1
  have hhi : ∀ x, okCode ((shrui w (broadcast S16 16#32) : IVec S16 32) x) := fun x => by
    show okCode (hiCode (w x)); rw [hw]; exact (hC _).2
  iintro ⟨Hi, Hr, %f, %hf, Ho⟩
  iapply (wp_load 𝒱₀ (thr d i) none Set.univ (m := idxM) (S := Finset.univ) (Finset.subset_univ _)) $$ Hi
  iintro Hi
  rw [hwv]
  rw [wp_assume_of _ _ _ _ (g₁ _ _ (chk_of_ok _ hlo))]
  iapply (SparseCore.wp_vectorLoadIdx 𝒱₀ (thr d i) none Set.univ (base := rowM) (S := Finset.univ) (Finset.subset_univ _)) $$ Hr
  iintro Hr
  iapply (wp_load_rect 𝒱₀ (thr d i) none Set.univ (m := outM) (r := Rect.unit (s := S4x16x224) oa S1x1x16.size hoa) (S := slotSet s) (access_set_subset oa hoa ea)) $$ Ho
  iintro Ho
  iapply (wp_store 𝒱₀ (thr d i) none Set.univ (m := outM) (r := Rect.unit (s := S4x16x224) oa S1x1x16.size hoa) (S := slotSet s) (access_set_subset oa hoa ea)) $$ Ho
  iintro Ho
  rw [wp_assume_of _ _ _ _ (g₂ _ _ (chk_of_ok _ hhi))]
  iapply (SparseCore.wp_vectorLoadIdx 𝒱₀ (thr d i) none Set.univ (base := rowM) (S := Finset.univ) (Finset.subset_univ _)) $$ Hr
  iintro Hr
  iapply (wp_load_rect 𝒱₀ (thr d i) none Set.univ (m := outM) (r := Rect.unit (s := S4x16x224) ob S1x1x16.size hob) (S := slotSet s) (access_set_subset ob hob eb)) $$ Ho
  iintro Ho
  iapply (wp_store 𝒱₀ (thr d i) none Set.univ (m := outM) (r := Rect.unit (s := S4x16x224) ob S1x1x16.size hob) (S := slotSet s) (access_set_subset ob hob eb)) $$ Ho
  iintro Ho
  rw [wp_ret]
  imodintro
  isplitl [Hi]; · iexact Hi
  isplitl [Hr]; · iexact Hr
  iexists _; isplitr
  rotate_left
  · iexact Ho
  ipureintro
  refine Good.mono (good_write C R k s h (32 * u + 16) _ _ ob hob eb _ ?_ (good_write C R k s h (32 * u) _ f oa hoa ea _ ?_ hf)) ?_
  · intro x
    have hx : (x 2).val < 16 := (x 2).isLt
    show loadIdx _ _ _ _ = _
    rw [show (rowM.access (Rect.whole S224x224)).read (Elt F) R = R from Memref.read_access_whole (Elt F) cc0_scratch1 R]
    rw [pick_eq R _ hhi]
    show pick R (hiCode (w _)) = pick R _
    rw [hw, codeAt_hi C hx, lane_of]
  · intro x
    have hx : (x 2).val < 16 := (x 2).isLt
    show loadIdx _ _ _ _ = _
    rw [show (rowM.access (Rect.whole S224x224)).read (Elt F) R = R from Memref.read_access_whole (Elt F) cc0_scratch1 R]
    rw [pick_eq R _ hlo]
    show pick R (loCode (w _)) = pick R _
    rw [hw, codeAt_lo C hx, lane_of]
  · intro a b _ _ hp
    rcases hp with hp | ⟨h1, h2, h3⟩
    · exact .inl (.inl hp)
    · by_cases hb : b < 32 * u + 16
      · exact .inl (.inr ⟨h1, h2, hb⟩)
      · exact .inr ⟨h1, by omega, by omega⟩

end Cert.Proof.Gather

end
-- ==== Proof.Moves.lean ====
/-
  The copies of one row: a slot of the staging buffer out to its sixteen lines of the result, the row in, and the
  waits for them; and the rule for a whole chunk's loops.
-/
module

public import proofs.«01_k».proof.Proof.Chunk

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The loops of a chunk -/

/-- The lines before `2 t`, and of the two lines from there the columns before `32 u`. -/
abbrev donePos (t u : Nat) : Nat → Nat → Prop := fun a b => a < 2 * t ∨ (a < 2 * t + 2 ∧ b < 32 * u)

/-- The rule for a chunk: whatever the inner trip's text, if a trip adds its two lines of 32, the two loops fill the slot. -/
theorem chunk_wp (d : Dev nD) (i : grid0.Coords) (C : S25088.Idx → BitVec 32) (R : S224x224.Idx → F .f32) (k s : Nat)
    (body : Fin k0_t2_loop.trips → Fin k0_t3_loop.trips → Prog (TpuEff nD τ sig (Elt F) Λ₀ (.scVector (cV i) (jV i))) PUnit)
    (hbody : ∀ (t : Fin k0_t2_loop.trips) (u : Fin k0_t3_loop.trips) (P : Nat → Nat → Prop), fill d i C R k s P
      ⊢ wp frame (wpE (defs₀ (F := F)) 𝒱₀ (thr d i) none) Set.univ (body t u)
          fun _ => fill d i C R k s (addLine (addLine P (2 * t.val) u.val) (2 * t.val + 1) u.val))
    {Q : PUnit → sProp 𝕄} :
    fill d i C R k s (fun _ _ => False)
      ⊢ iprop((fill d i C R k s (fun _ _ => True) -∗ Q ⟨⟩)
        -∗ wp frame (wpE (defs₀ (F := F)) 𝒱₀ (thr d i) none) Set.univ
            (Scf.Loop.for k0_t2_loop k0_t2_ok ⟨⟩ fun t _ => do
              Scf.Loop.for k0_t3_loop k0_t3_ok ⟨⟩ fun u _ => body t u
              pure ⟨⟩) Q) := by
  have fill_mono : ∀ {P P' : Nat → Nat → Prop}, (∀ a b, a < 16 → b < 224 → P' a b → P a b) → fill d i C R k s P ⊢ (fill d i C R k s P' : sProp 𝕄) := by
    intro P P' h
    unfold fill
    iintro ⟨Hi, Hr, %f, %hf, Ho⟩
    isplitl [Hi]; · iexact Hi
    isplitl [Hr]; · iexact Hr
    iexists f; isplitr
    · ipureintro; exact hf.mono h
    · iexact Ho
  iintro HF HQ
  iapply (Scf.wp_for frame (wpE (defs₀ (F := F)) 𝒱₀ (thr d i) none) Set.univ _ _ _ _ _ _
    (fun t _ => fill d i C R k s (donePos t 0)) ?hb)
  case hb =>
    intro t _
    rw [wp_bind]
    iintro HF
    iapply (Scf.wp_for frame (wpE (defs₀ (F := F)) 𝒱₀ (thr d i) none) Set.univ _ _ _ _ _ _
      (fun u _ => fill d i C R k s (donePos t.val u)) ?hc)
    case hc =>
      intro u _
      refine (hbody t u _).trans (wp_mono frame _ _ fun _ => fill_mono ?_)
      intro a b _ _ h
      simp only [donePos, addLine] at h ⊢
      omega
    isplitl [HF]; · iexact HF
    iintro %_ HF
    rw [Prog.pure_eq_ret, wp_ret]
    imodintro
    iapply (fill_mono (P := donePos t.val k0_t3_loop.trips) ?_) $$ HF
    intro a b _ _ h
    rw [show k0_t3_loop.trips = 7 by decide]
    simp only [donePos] at h ⊢
    omega
  isplitl [HF]
  · iapply (fill_mono ?_) $$ HF
    intro a b _ _ h
    simp only [donePos] at h
    omega
  iintro %_ HF
  iapply HQ
  iapply (fill_mono (P := donePos k0_t2_loop.trips 0) ?_) $$ HF
  intro a b _ _ h
  rw [show k0_t2_loop.trips = 8 by decide]
  simp only [donePos]
  omega

/-! ## What the core owes, and a wait -/

/-- What the core owes, with waits recorded beyond `W` at no call's index. -/
def ow (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

theorem wait_wp (d : Dev nD) (i : grid0.Coords) (O : CellTallies nD τ sig (HIx 1)) (W : Waits sig (HIx 1)) {sp sp' : Space} {s s' : Shape} {e e' : EltTy}
    {sem : DmaSem sig} {src : Memref sig .scVector sp' s' e'} {dst : Memref sig .scVector sp s e} {hsrc : src.view.WordExact} {hdst : dst.view.WordExact}
    {N : ℕ} (hN : dst.view.dmaCredit = N) {D : sProp 𝕄} {Q : PUnit → sProp 𝕄} :
    iprop(Transfers.Flight countersEmb (thr d i) (.dma sem) none N D ∗ ow d i O W ∗ Transfers.MayWaits (thr d i) (none : HIx 1) O)
      ⊢ iprop((iprop(D ∗ semVal (thr d i, .dma sem) 0 ∗ ow d i O W) -∗ Q ⟨⟩)
        -∗ wp frame (wpE (defs₀ (F := F)) 𝒱₀ (thr d i) none) Set.univ (Prog.lift (.waitDma2 sem src dst hsrc hdst)) Q) := by
  unfold ow
  iintro ⟨HF, ⟨%W', %hW', HO⟩, #Hm⟩ HQ
  iapply (Transfers.wp_waitLocalO countersEmb 𝒱₀ (thr d i) none none hN) $$ [HF HO]
  · isplitl [HF]; · iexact HF
    isplitl [HO]; · iexact HO
    iapply Transfers.MayWaits.elim; iexact Hm
  iintro ⟨HD, Hs, HO⟩
  rw [wp_ret]; imodintro
  iapply HQ
  isplitl [HD]; · iexact HD
  isplitl [Hs]; · iexact Hs
  iexists _; isplitr
  rotate_left
  · iexact HO
  ipureintro
  intro p hp
  rcases Finset.mem_insert.mp hp with hp | hp
  · exact .inr (hp ▸ rfl)
  · exact hW' p hp

/-! ## The copies out -/

abbrev xM : Memref sig .scVector .hbm S1536x224x224 .f32 := Memref.whole main_v0_scv
abbrev cM : Memref sig .scVector .hbm S25088 .i32 := Memref.whole main_v14_scv
abbrev oM : Memref sig .scVector .hbm S1536x224x224 .f32 := Memref.whole main_v15_scv

abbrev xLoc (d : Dev nD) : Loc nD τ sig := (SparseCore.T d).loc main_v0
abbrev cLoc (d : Dev nD) : Loc nD τ sig := (SparseCore.T d).loc main_v14
abbrev oLoc (d : Dev nD) : Loc nD τ sig := (SparseCore.T d).loc main_v15

/-- A slot of the staging buffer, and sixteen lines of the result, as a copy names them. -/
abbrev slotM (s : Nat) (hs : ∀ a, (![s, 0, 0] : Fin 3 → Nat) a + S1x16x224.size a ≤ S4x16x224.size a) : Memref sig .scVector .vmem S16x224 .f32 :=
  (outM.slice (Rect.unit (s := S4x16x224) ![s, 0, 0] S1x16x224.size hs) (fun _ => rfl)).squeeze S16x224 squeezes_S1x16x224_S16x224
abbrev linesM (o : Fin 3 → Nat) (ho : ∀ a, o a + S1x16x224.size a ≤ S1536x224x224.size a) : Memref sig .scVector .hbm S16x224 .f32 :=
  (oM.slice (Rect.unit (s := S1536x224x224) o S1x16x224.size ho) (fun _ => rfl)).squeeze S16x224 squeezes_S1x16x224_S16x224

/-- The semaphore of slot `s`. -/
abbrev slotSem (s : Nat) (hs : ∀ a, (![s] : Fin 1 → Nat) a + S1.size a ≤ S4.size a) : DmaSem sig :=
  ((cc0_scratch3.slice (Rect.unit (s := S4) ![s] S1.size hs)).squeeze S_ squeezes_S1_S_).sem

/-- The credit of a copy of sixteen lines. -/
abbrev nOut : ℕ := sig.dmaCredit .scVector (Kind.scVector.table .hbm) main_v15_scv.idx S16x224 .f32

theorem slot_view_set (s : Nat) (hs) : (slotM s hs).view.set = slotSet s := by
  rw [show (slotM s hs).view.set = _ from View.set_reshape _ _]
  rw [show (outM.slice (Rect.unit (s := S4x16x224) ![s, 0, 0] S1x16x224.size hs) (fun _ => rfl)).view.set = _ from View.set_slice_whole _ _]
  ext x
  rw [Rect.mem_set_unit]
  have h1 : (x 1).val < 16 := (x 1).isLt
  have h2 : (x 2).val < 224 := (x 2).isLt
  constructor
  · intro h
    have a := (h 0).1; have b := (h 0).2
    change s ≤ (x 0).val at a
    change (x 0).val < s + 1 at b
    exact Finset.mem_filter.mpr ⟨Finset.mem_univ _, by omega⟩
  · intro h z
    have h0 : (x 0).val = s := (Finset.mem_filter.mp h).2
    match z with
    | 0 => exact ⟨h0.ge, by show (x 0).val < s + 1; omega⟩
    | 1 => exact ⟨Nat.zero_le _, by show (x 1).val < 0 + 16; omega⟩
    | 2 => exact ⟨Nat.zero_le _, by show (x 2).val < 0 + 224; omega⟩

theorem lines_view_set {r k : Nat} (o : Fin 3 → Nat) (ho) (eo : o = ![r, 16 * k, 0]) :
    (linesM o ho).view.set = lineSet (224 * r + 16 * k) (224 * r + 16 * k + 16) := by
  subst eo
  rw [show (linesM _ ho).view.set = _ from View.set_reshape _ _]
  rw [show (oM.slice (Rect.unit (s := S1536x224x224) ![r, 16 * k, 0] S1x16x224.size ho) (fun _ => rfl)).view.set = _ from View.set_slice_whole _ _]
  ext x
  rw [Rect.mem_set_unit]
  have hk : 16 * k + 16 ≤ 224 := ho 1
  have h1 : (x 1).val < 224 := (x 1).isLt
  have h2 : (x 2).val < 224 := (x 2).isLt
  constructor
  · intro h
    have a := (h 0).1; have b := (h 0).2
    have a' := (h 1).1; have b' := (h 1).2
    change r ≤ (x 0).val at a
    change (x 0).val < r + 1 at b
    change 16 * k ≤ (x 1).val at a'
    change (x 1).val < 16 * k + 16 at b'
    exact Finset.mem_filter.mpr ⟨Finset.mem_univ _, by omega, by omega⟩
  · intro h z
    have h0 := (Finset.mem_filter.mp h).2
    match z with
    | 0 => exact ⟨by show r ≤ (x 0).val; omega, by show (x 0).val < r + 1; omega⟩
    | 1 => exact ⟨by show 16 * k ≤ (x 1).val; omega, by show (x 1).val < 16 * k + 16; omega⟩
    | 2 => exact ⟨Nat.zero_le _, by show (x 2).val < 0 + 224; omega⟩

/-- What a copy of chunk lines leaves is the launch's result there. -/
theorem lines_val (C : S25088.Idx → BitVec 32) (X : S1536x224x224.Idx → F .f32) {r k s : Nat} (o : Fin 3 → Nat) (ho) (hs) (eo : o = ![r, 16 * k, 0])
    (f : S4x16x224.Idx → F .f32) (hf : Good C (rowOf X r) k s (fun _ _ => True) f) (g : S1536x224x224.Idx → F .f32) :
    ∀ x ∈ lineSet (224 * r + 16 * k) (224 * r + 16 * k + 16),
      (linesM o ho).view.write (Elt F) g (ReadAs.same.apply ((slotM s hs).view.read (Elt F) f)) Finset.univ x = outVal C X x := by
  intro x hx
  rw [← lines_view_set o ho eo] at hx
  subst eo
  obtain ⟨y, -, rfl⟩ := Finset.mem_map.mp hx
  rw [View.write_emb_of_mem _ _ (Finset.mem_univ y)]
  have hy : (Shape.reshapeEquiv squeezes_S1x16x224_S16x224.numel_eq y 0).val < 1 := (Shape.reshapeEquiv squeezes_S1x16x224_S16x224.numel_eq y 0).isLt
  show f ((Rect.unit (s := S4x16x224) ![s, 0, 0] S1x16x224.size hs).idx (Shape.reshapeEquiv squeezes_S1x16x224_S16x224.numel_eq y))
    = outVal C X ((Rect.unit (s := S1536x224x224) ![r, 16 * k, 0] S1x16x224.size ho).idx (Shape.reshapeEquiv squeezes_S1x16x224_S16x224.numel_eq y))
  generalize Shape.reshapeEquiv squeezes_S1x16x224_S16x224.numel_eq y = z at hy
  rw [hf _ (by show s + 1 * (z 0).val = s; omega) trivial]
  unfold outVal
  rw [show (((Rect.unit (s := S1536x224x224) ![r, 16 * k, 0] S1x16x224.size ho).idx z) 0).val = r by show r + 1 * (z 0).val = r; omega]
  rw [show (((Rect.unit (s := S1536x224x224) ![r, 16 * k, 0] S1x16x224.size ho).idx z) 1).val = 16 * k + (((Rect.unit (s := S4x16x224) ![s, 0, 0] S1x16x224.size hs).idx z) 1).val by
    show 16 * k + 1 * (z 1).val = 16 * k + (0 + 1 * (z 1).val); omega]
  rfl

/-! ## The state of a row, and its steps

The state is in pieces: what a chunk reads with the lines not yet copied to, each slot, and the lines already right. -/

section Steps

variable (d : Dev nD) (i : grid0.Coords) (C : S25088.Idx → BitVec 32) (X g : S1536x224x224.Idx → F .f32)

/-- The codes, row `r`, and the lines from chunk `k` of that row to line `e` at their first contents. -/
def core (r e k : Nat) : sProp 𝕄 :=
  iprop((idxLoc d i ↦{fullShare} C) ∗ (rowLoc d i ↦{fullShare} rowOf X r) ∗ (oLoc d ↦[lineSet (224 * r + 16 * k) e]{fullShare} g))

/-- The lines from `b` to chunk `k` of row `r` at the launch's result, and what the core owes. -/
def doneTo (O : CellTallies nD τ sig (HIx 1)) (W : Waits sig (HIx 1)) (b r k : Nat) : sProp 𝕄 :=
  iprop(Transfers.MayWaits (thr d i) (none : HIx 1) O ∗ ow d i O W ∗ (oLoc d ↦[lineSet b (224 * r + 16 * k)]{fullShare} outVal C X))

/-- Slot `s`, free. -/
def free (s : Nat) (sm : DmaSem sig) : sProp 𝕄 :=
  iprop(semVal (thr d i, .dma sm) 0 ∗ ∃ f, outLoc d i ↦[slotSet s]{fullShare} f)

/-- Slot `s`, holding chunk `k` of row `r`. -/
def full (r k s : Nat) (sm : DmaSem sig) : sProp 𝕄 :=
  iprop(semVal (thr d i, .dma sm) 0 ∗ ∃ f, ⌜Good C (rowOf X r) k s (fun _ _ => True) f⌝ ∗ (outLoc d i ↦[slotSet s]{fullShare} f))

/-- Slot `s` on its way to chunk `k`'s lines of row `r`: at the wait those lines hold the launch's result and the slot is back. -/
def flying (r k s : Nat) (sm : DmaSem sig) : sProp 𝕄 :=
  Transfers.Flight countersEmb (thr d i) (.dma sm) none nOut
    iprop((oLoc d ↦[lineSet (224 * r + 16 * k) (224 * r + 16 * k + 16)]{fullShare} outVal C X) ∗ ∃ f, outLoc d i ↦[slotSet s]{fullShare} f)

/-- A chunk's loops. -/
theorem gather_wp (r e k s : Nat) (sm : DmaSem sig)
    (body : Fin k0_t2_loop.trips → Fin k0_t3_loop.trips → Prog (TpuEff nD τ sig (Elt F) Λ₀ (.scVector (cV i) (jV i))) PUnit)
    (hbody : ∀ (t : Fin k0_t2_loop.trips) (u : Fin k0_t3_loop.trips) (P : Nat → Nat → Prop), fill d i C (rowOf X r) k s P
      ⊢ wp frame (wpE (defs₀ (F := F)) 𝒱₀ (thr d i) none) Set.univ (body t u)
          fun _ => fill d i C (rowOf X r) k s (addLine (addLine P (2 * t.val) u.val) (2 * t.val + 1) u.val))
    {Q : PUnit → sProp 𝕄} :
    core d i C X g r e k
      ⊢ iprop(free d i s sm -∗ ((core d i C X g r e k ∗ full d i C X r k s sm) -∗ Q ⟨⟩)
        -∗ wp frame (wpE (defs₀ (F := F)) 𝒱₀ (thr d i) none) Set.univ
            (Scf.Loop.for k0_t2_loop k0_t2_ok ⟨⟩ fun t _ => do
              Scf.Loop.for k0_t3_loop k0_t3_ok ⟨⟩ fun u _ => body t u
              pure ⟨⟩) Q) := by
  unfold core free full
  iintro ⟨Hi, Hr, Ho⟩ ⟨Hv, %f, Hs⟩ HQ
  iapply (chunk_wp d i C (rowOf X r) k s body hbody) $$ [Hi Hr Hs]
  · unfold fill
    isplitl [Hi]; · iexact Hi
    isplitl [Hr]; · iexact Hr
    iexists f; isplitr
    · ipureintro; exact fun _ _ h => h.elim
    · iexact Hs
  unfold fill
  iintro ⟨Hi, Hr, Hs⟩
  iapply HQ
  isplitl [Hi Hr Ho]
  · isplitl [Hi]; · iexact Hi
    isplitl [Hr]; · iexact Hr
    iexact Ho
  isplitl [Hv]; · iexact Hv
  iexact Hs

/-- A chunk's copy out, issued. -/
theorem issue_wp (r e k s : Nat) (sm : DmaSem sig) (o : Fin 3 → Nat) (ho) (hs) (eo : o = ![r, 16 * k, 0]) (he : 224 * r + 16 * k + 16 ≤ e)
    {h₁ : (slotM s hs).view.WordExact} {h₂ : (linesM o ho).view.WordExact} {h₃} {Q : PUnit → sProp 𝕄} :
    core d i C X g r e k
      ⊢ iprop(full d i C X r k s sm -∗ ((core d i C X g r e (k + 1) ∗ flying d i C X r k s sm) -∗ Q ⟨⟩)
        -∗ wp frame (wpE (defs₀ (F := F)) 𝒱₀ (thr d i) none) Set.univ
          (Prog.lift (.enqueueDma (slotM s hs) (.here (linesM o ho)) (.dma sm) h₁ h₂ h₃)) Q) := by
  unfold core full
  rw [lineSet_union (b := 224 * r + 16 * k + 16) (by omega) he]
  iintro ⟨Hi, Hr, Ho⟩ ⟨Hv, %f, %hf, Hs⟩ HQ
  ihave Ho := (pointsTo_union (lineSet_disjoint _ _ _)).1 $$ Ho
  icases Ho with ⟨Ho, Hrest⟩
  iapply (Transfers.wp_dmaLocal countersEmb 𝒱₀ (thr d i) none (src := slotM s hs) (dst := linesM o ho) (sm := .dma sm) none nOut rfl
      (View.dmaCredit_pos (linesM o ho).view (show 0 < S16x224.numel by decide)) (Finset.Subset.refl _)
      (q := fullShare) (fs := f) (fd := g)) $$ [Hs Ho Hv]
  · rw [slot_view_set, lines_view_set o ho eo]
    isplitl [Hs]; · iexact Hs
    isplitl [Ho]; · iexact Ho
    iexact Hv
  iintro HF
  rw [wp_ret]; imodintro
  iapply HQ
  isplitl [Hi Hr Hrest]
  · isplitl [Hi]; · iexact Hi
    isplitl [Hr]; · iexact Hr
    rw [show 224 * r + 16 * (k + 1) = 224 * r + 16 * k + 16 by omega]
    iexact Hrest
  unfold flying
  iapply (Transfers.Flight_mono countersEmb (thr d i) ?_) $$ HF
  rw [slot_view_set, lines_view_set o ho eo]
  iintro ⟨Ho, Hs⟩
  isplitl [Ho]
  · iapply (Entails.of_eq (pointsTo_congr (lines_val C X o ho hs eo f hf g))) $$ Ho
  · iexists f; iexact Hs

/-- A chunk's copy out, waited for. -/
theorem landed_wp (O : CellTallies nD τ sig (HIx 1)) (W : Waits sig (HIx 1)) (b r k s : Nat) (sm : DmaSem sig) (hb : b ≤ 224 * r)
    {sp : Space} {s' : Shape} {e' : EltTy} {src : Memref sig .scVector sp s' e'} {o : Fin 3 → Nat} {ho}
    {hsrc : src.view.WordExact} {hdst : (linesM o ho).view.WordExact} {Q : PUnit → sProp 𝕄} :
    doneTo d i C X O W b r k
      ⊢ iprop(flying d i C X r k s sm -∗ ((doneTo d i C X O W b r (k + 1) ∗ free d i s sm) -∗ Q ⟨⟩)
        -∗ wp frame (wpE (defs₀ (F := F)) 𝒱₀ (thr d i) none) Set.univ (Prog.lift (.waitDma2 sm src (linesM o ho) hsrc hdst)) Q) := by
  unfold doneTo flying free
  iintro ⟨#Hm, HO, Ho⟩ HF HQ
  iapply (wait_wp d i O W (N := nOut) rfl) $$ [HF HO]
  · isplitl [HF]; · iexact HF
    isplitl [HO]; · iexact HO
    iexact Hm
  iintro ⟨⟨Ho', Hs⟩, Hv, HO⟩
  iapply HQ
  isplitr [Hv Hs]
  · isplitr; · iexact Hm
    isplitl [HO]; · iexact HO
    rw [show 224 * r + 16 * (k + 1) = 224 * r + 16 * k + 16 by omega,
      lineSet_union (a := b) (b := 224 * r + 16 * k) (c := 224 * r + 16 * k + 16) (by omega) (by omega)]
    iapply (pointsTo_union (lineSet_disjoint _ _ _)).2
    isplitl [Ho] <;> iassumption
  · isplitl [Hv] <;> iassumption

end Steps

/-! ## The copies in -/

/-- Plane `r` of the input, as a copy names it. -/
abbrev planeM (o : Fin 3 → Nat) (ho : ∀ a, o a + S1x224x224.size a ≤ S1536x224x224.size a) : Memref sig .scVector .hbm S224x224 .f32 :=
  (xM.slice (Rect.unit (s := S1536x224x224) o S1x224x224.size ho) (fun _ => rfl)).squeeze S224x224 squeezes_S1x224x224_S224x224

abbrev nRow : ℕ := sig.dmaCredit .scVector (Kind.scVector.table .vmem) cc0_scratch1.idx S224x224 .f32
abbrev nIdx : ℕ := sig.dmaCredit .scVector (Kind.scVector.table .vmem) cc0_scratch0.idx S25088 .i32

theorem plane_read (X : S1536x224x224.Idx → F .f32) {r : Nat} (o : Fin 3 → Nat) (ho) (eo : o = ![r, 0, 0]) :
    (planeM o ho).view.read (Elt F) X = rowOf X r := by
  subst eo
  funext y
  have hr : r + 1 ≤ 1536 := ho 0
  have h0 : (y 0).val < 224 := (y 0).isLt
  have h1 : (y 1).val < 224 := (y 1).isLt
  show X ((Rect.unit (s := S1536x224x224) ![r, 0, 0] S1x224x224.size ho).idx (Shape.reshapeEquiv squeezes_S1x224x224_S224x224.numel_eq y)) = X _
  rw [show Shape.reshapeEquiv squeezes_S1x224x224_S224x224.numel_eq y = Fin.cons ⟨0, Nat.one_pos⟩ y from Shape.reshapeEquiv_cons_one _ _]
  congr 1
  funext a
  match a with
  | 0 => exact Fin.ext (by show r + 1 * 0 = r % 1536; rw [Nat.mod_eq_of_lt (by omega)]; omega)
  | 1 => exact Fin.ext (by show 0 + 1 * (y 0).val = (y 0).val % 224; rw [Nat.mod_eq_of_lt h0]; omega)
  | 2 => exact Fin.ext (by show 0 + 1 * (y 1).val = (y 1).val % 224; rw [Nat.mod_eq_of_lt h1]; omega)

/-- A row copied in and waited for. -/
theorem rowIn_wp (d : Dev nD) (i : grid0.Coords) (X : S1536x224x224.Idx → F .f32) (q : PosShare TreeShare)
    (O : CellTallies nD τ sig (HIx 1)) (W : Waits sig (HIx 1)) (r : Nat) (sm : DmaSem sig) (o : Fin 3 → Nat) (ho) (eo : o = ![r, 0, 0])
    {h₁ h₁' : (planeM o ho).view.WordExact} {h₂ h₂' : rowM.view.WordExact} {h₃} {Q : PUnit → sProp 𝕄} :
    iprop((xLoc d ↦{q} X) ∗ (∃ f, rowLoc d i ↦{fullShare} f) ∗ semVal (thr d i, .dma sm) 0 ∗ ow d i O W ∗ Transfers.MayWaits (thr d i) (none : HIx 1) O)
      ⊢ iprop((((xLoc d ↦{q} X) ∗ (rowLoc d i ↦{fullShare} rowOf X r) ∗ semVal (thr d i, .dma sm) 0 ∗ ow d i O W) -∗ Q ⟨⟩)
        -∗ wp frame (wpE (defs₀ (F := F)) 𝒱₀ (thr d i) none) Set.univ (Prog.lift (.enqueueDma (planeM o ho) (.here rowM) (.dma sm) h₁ h₂ h₃))
            fun _ => wp frame (wpE (defs₀ (F := F)) 𝒱₀ (thr d i) none) Set.univ (Prog.lift (.waitDma2 sm (planeM o ho) rowM h₁' h₂')) Q) := by
  iintro ⟨Hx, ⟨%f, Hr⟩, Hv, HO, #Hm⟩ HQ
  ihave Hx := (pointsTo_split_subset (Finset.subset_univ (planeM o ho).view.set)).1 $$ Hx
  icases Hx with ⟨Hx, Hxr⟩
  iapply (Transfers.wp_dmaLocal countersEmb 𝒱₀ (thr d i) none (src := planeM o ho) (dst := rowM) (sm := .dma sm) none nRow rfl
      (View.dmaCredit_pos rowM.view (show 0 < S224x224.numel by decide)) (Finset.subset_univ _)
      (q := q) (fs := X) (fd := f)) $$ [Hx Hr Hv]
  · isplitl [Hx]; · iexact Hx
    isplitl [Hr]; · iexact Hr
    iexact Hv
  iintro HF
  rw [wp_ret]; imodintro
  iapply (wait_wp d i O W (N := nRow) rfl) $$ [HF HO]
  · isplitl [HF]; · iexact HF
    isplitl [HO]; · iexact HO
    iexact Hm
  iintro ⟨⟨Hr, Hx⟩, Hv, HO⟩
  iapply HQ
  isplitl [Hx Hxr]
  · iapply (pointsTo_split_subset (Finset.subset_univ (planeM o ho).view.set)).2
    isplitl [Hx] <;> iassumption
  isplitl [Hr]
  · iapply (Entails.of_eq (pointsTo_congr ?_)) $$ Hr
    intro y _
    rw [show ReadAs.same.apply ((planeM o ho).view.read (Elt F) X) = rowOf X r from plane_read X o ho eo]
    exact congrFun (View.write_whole_univ (Val := Elt F) cc0_scratch1 f (rowOf X r)) y
  isplitl [Hv] <;> iassumption

/-- The code list copied in and waited for. -/
theorem codesIn_wp (d : Dev nD) (i : grid0.Coords) (C : S25088.Idx → BitVec 32) (q : PosShare TreeShare)
    (O : CellTallies nD τ sig (HIx 1)) (W : Waits sig (HIx 1)) (sm : DmaSem sig)
    {h₁ h₁' : cM.view.WordExact} {h₂ h₂' : idxM.view.WordExact} {h₃} {Q : PUnit → sProp 𝕄} :
    iprop((cLoc d ↦{q} C) ∗ (∃ f, idxLoc d i ↦{fullShare} f) ∗ semVal (thr d i, .dma sm) 0 ∗ ow d i O W ∗ Transfers.MayWaits (thr d i) (none : HIx 1) O)
      ⊢ iprop((((cLoc d ↦{q} C) ∗ (idxLoc d i ↦{fullShare} C) ∗ semVal (thr d i, .dma sm) 0 ∗ ow d i O W) -∗ Q ⟨⟩)
        -∗ wp frame (wpE (defs₀ (F := F)) 𝒱₀ (thr d i) none) Set.univ (Prog.lift (.enqueueDma cM (.here idxM) (.dma sm) h₁ h₂ h₃))
            fun _ => wp frame (wpE (defs₀ (F := F)) 𝒱₀ (thr d i) none) Set.univ (Prog.lift (.waitDma2 sm cM idxM h₁' h₂')) Q) := by
  iintro ⟨Hc, ⟨%f, Hi⟩, Hv, HO, #Hm⟩ HQ
  iapply (Transfers.wp_dmaLocal countersEmb 𝒱₀ (thr d i) none (src := cM) (dst := idxM) (sm := .dma sm) none nIdx rfl
      (View.dmaCredit_pos idxM.view (show 0 < S25088.numel by decide)) (Finset.subset_univ _)
      (q := q) (fs := C) (fd := f)) $$ [Hc Hi Hv]
  · rw [show cM.view.set = Finset.univ from View.set_whole _]
    isplitl [Hc]; · iexact Hc
    isplitl [Hi]; · iexact Hi
    iexact Hv
  iintro HF
  rw [wp_ret]; imodintro
  iapply (wait_wp d i O W (N := nIdx) rfl) $$ [HF HO]
  · isplitl [HF]; · iexact HF
    isplitl [HO]; · iexact HO
    iexact Hm
  rw [show cM.view.set = Finset.univ from View.set_whole _]
  iintro ⟨⟨Hi, Hc⟩, Hv, HO⟩
  iapply HQ
  isplitl [Hc]; · iexact Hc
  isplitl [Hi]
  · iapply (Entails.of_eq (pointsTo_congr ?_)) $$ Hi
    intro y _
    exact congrFun (View.write_whole_univ (Val := Elt F) cc0_scratch0 f C) y
  isplitl [Hv] <;> iassumption

end Cert.Proof.Gather

end
-- ==== Proof.Row.lean ====
/-
  One row of a tile: the row copied in, fourteen chunks gathered and copied out.
-/
module

public import proofs.«01_k».proof.Proof.Moves

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- An inner trip: two gathered lines of 32. -/
theorem trip_wp (d : Dev nD) (i : grid0.Coords) {C : S25088.Idx → BitVec 32} (hC : okCodes C) {R : S224x224.Idx → F .f32}
    {k s h u : Nat} {P : Nat → Nat → Prop}
    {o oa ob o' oa' ob'} (ho : ∀ a, o a + S16.size a ≤ S25088.size a)
    (hoa : ∀ a, oa a + S1x1x16.size a ≤ S4x16x224.size a) (hob : ∀ a, ob a + S1x1x16.size a ≤ S4x16x224.size a)
    (ho' : ∀ a, o' a + S16.size a ≤ S25088.size a)
    (hoa' : ∀ a, oa' a + S1x1x16.size a ≤ S4x16x224.size a) (hob' : ∀ a, ob' a + S1x1x16.size a ≤ S4x16x224.size a)
    {P₁ P₂ P₃ P₄ : IVec S16 32 → IVec S16 32 → Prop} (d₁ : ∀ v w, Decidable (P₁ v w)) (d₂ : ∀ v w, Decidable (P₂ v w))
    (d₃ : ∀ v w, Decidable (P₃ v w)) (d₄ : ∀ v w, Decidable (P₄ v w))
    (e₁ : ∀ v w, P₁ v w → ∀ a x, ((![v, w] : Fin 2 → IVec S16 32) a x).toNat < S224x224.size a)
    (e₂ : ∀ v w, P₂ v w → ∀ a x, ((![v, w] : Fin 2 → IVec S16 32) a x).toNat < S224x224.size a)
    (e₃ : ∀ v w, P₃ v w → ∀ a x, ((![v, w] : Fin 2 → IVec S16 32) a x).toNat < S224x224.size a)
    (e₄ : ∀ v w, P₄ v w → ∀ a x, ((![v, w] : Fin 2 → IVec S16 32) a x).toNat < S224x224.size a)
    (g : (∀ v w, (∀ a x, ((![v, w] : Fin 2 → IVec S16 32) a x).toNat < S224x224.size a) → P₁ v w)
      ∧ (∀ v w, (∀ a x, ((![v, w] : Fin 2 → IVec S16 32) a x).toNat < S224x224.size a) → P₂ v w)
      ∧ (∀ v w, (∀ a x, ((![v, w] : Fin 2 → IVec S16 32) a x).toNat < S224x224.size a) → P₃ v w)
      ∧ (∀ v w, (∀ a x, ((![v, w] : Fin 2 → IVec S16 32) a x).toNat < S224x224.size a) → P₄ v w))
    (eq : o = ![1792 * k + 112 * h + 16 * u] ∧ oa = ![s, h, 32 * u] ∧ ob = ![s, h, 32 * u + 16]
      ∧ o' = ![1792 * k + 112 * (h + 1) + 16 * u] ∧ oa' = ![s, h + 1, 32 * u] ∧ ob' = ![s, h + 1, 32 * u + 16]) :
    fill d i C R k s P
      ⊢ wp frame (wpE (defs₀ (F := F)) 𝒱₀ (thr d i) none) Set.univ
          (do
            halfProg i o ho oa hoa ob hob P₁ P₂ d₁ d₂ e₁ e₂
            halfProg i o' ho' oa' hoa' ob' hob' P₃ P₄ d₃ d₄ e₃ e₄
            pure PUnit.unit)
          fun _ => fill d i C R k s (addLine (addLine P h u) (h + 1) u) := by
  obtain ⟨g₁, g₂, g₃, g₄⟩ := g
  obtain ⟨e1, e2, e3, e4, e5, e6⟩ := eq
  rw [wp_bind]
  refine (half_wp d i C hC R k s h u P o ho oa hoa ob hob P₁ P₂ d₁ d₂ e₁ e₂ g₁ g₂ e1 e2 e3).trans (wp_mono frame _ _ fun _ => ?_)
  rw [wp_bind]
  refine (half_wp d i C hC R k s (h + 1) u _ o' ho' oa' hoa' ob' hob' P₃ P₄ d₃ d₄ e₃ e₄ g₃ g₄ e4 e5 e6).trans (wp_mono frame _ _ fun _ => ?_)
  rw [Prog.pure_eq_ret, wp_ret]
  iintro H; imodintro; iexact H

/-- The row a trip of the row loop works on. -/
abbrev rowNo (i : grid0.Coords) (t : Fin k0_t1_loop.trips) : Nat := 96 * (i 1).val + 48 * (i 0).val + t.val

/-- Between the rows: everything a trip of the row loop reads and writes. -/
def rowInv (d : Dev nD) (i : grid0.Coords) (C : S25088.Idx → BitVec 32) (X g : S1536x224x224.Idx → F .f32) (q : PosShare TreeShare)
    (O : CellTallies nD τ sig (HIx 1)) (W : Waits sig (HIx 1)) (b e r : Nat) : sProp 𝕄 :=
  iprop((idxLoc d i ↦{fullShare} C) ∗ (xLoc d ↦{q} X) ∗ (∃ f, rowLoc d i ↦{fullShare} f) ∗ (oLoc d ↦[lineSet (224 * r) e]{fullShare} g)
    ∗ semVal (thr d i, .dma cc0_scratch4.sem) 0
    ∗ (Transfers.MayWaits (thr d i) (none : HIx 1) O ∗ ow d i O W ∗ (oLoc d ↦[lineSet b (224 * r)]{fullShare} outVal C X))
    ∗ free d i 0 (slotSem 0 inb_S4_S1_0) ∗ free d i 1 (slotSem 1 inb_S4_S1_1)
    ∗ free d i 2 (slotSem 2 inb_S4_S1_2) ∗ free d i 3 (slotSem 3 inb_S4_S1_3))

/-- A trip of the row loop. -/
def rowProg (i : grid0.Coords) (v2 c0 c1 : BitVec 32) (t : Fin k0_t1_loop.trips) :
    Prog (TpuEff nD τ sig (Elt F) Λ₀ (.scVector (cV i) (jV i))) PUnit := do
  k0_part15 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 v2 c0 c1 t
  k0_part16 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t
  k0_part17 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t
  k0_part18 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t
  let c ← k0_part19 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t
  k0_part20 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t c
  k0_part21 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t
  k0_part22 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t
  let c' ← k0_part23 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t
  k0_part24 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t c'
  k0_part25 i xM (Memref.isWhole_whole _) cM (Memref.isWhole_whole _) oM (Memref.isWhole_whole _) idxM (Memref.isWhole_whole _) rowM (Memref.isWhole_whole _)
    outM (Memref.isWhole_whole _) cc0_scratch3 cc0_scratch4 cc0_scoped0 t
  Prog.lift (.waitDma2 (slotSem 0 inb_S4_S1_0) (slotM 0 inb_S4x16x224_S1x16x224_0_0_0) (linesM (k0_off92 i t) (k0_off92_inb i t)) ((View.wordExact_bits rfl).reshape _ _) ((View.wordExact_bits rfl).reshape _ _))
  Prog.lift (.waitDma2 (slotSem 1 inb_S4_S1_1) (slotM 1 inb_S4x16x224_S1x16x224_1_0_0) (linesM (k0_off99 i t) (k0_off99_inb i t)) ((View.wordExact_bits rfl).reshape _ _) ((View.wordExact_bits rfl).reshape _ _))
  pure PUnit.unit

/-- A trip of the row loop: row `rowNo i t` copied in, its fourteen chunks gathered and copied out, every copy waited for. -/
theorem row_wp (d : Dev nD) (i : grid0.Coords) (C : S25088.Idx → BitVec 32) (hC : okCodes C) (X g : S1536x224x224.Idx → F .f32)
    (q : PosShare TreeShare) (O : CellTallies nD τ sig (HIx 1)) (W : Waits sig (HIx 1)) (b e : Nat)
    (v2 c0 c1 : BitVec 32) (t : Fin k0_t1_loop.trips) (hb : b ≤ 224 * rowNo i t) (he : 224 * rowNo i t + 224 ≤ e) :
    rowInv d i C X g q O W b e (rowNo i t)
      ⊢ wp frame (wpE (defs₀ (F := F)) 𝒱₀ (thr d i) none) Set.univ (rowProg i v2 c0 c1 t) fun _ => rowInv d i C X g q O W b e (rowNo i t + 1) := by
  unfold rowProg rowInv
  iintro ⟨Hi, Hx, Hr, Ho, Hv, ⟨#Hm, HO, Hd⟩, H0, H1, H2, H3⟩
  rw [wp_bind]
  unfold k0_part15
  dsimp only
  rw [wp_bind]
  rw [wp_bind]
  iapply (rowIn_wp d i X q O W (rowNo i t) _ _ _ (k0_off1_eq i t)) $$ [Hx Hr Hv HO]
  · isplitl [Hx]; · iexact Hx
    isplitl [Hr]; · iexact Hr
    isplitl [Hv]; · iexact Hv
    isplitl [HO]; · iexact HO
    iexact Hm
  iintro ⟨Hx, Hr, Hv, HO⟩
  ihave Hd : doneTo d i C X O W b (rowNo i t) 0 $$ [HO Hd]
  · unfold doneTo
    isplitr; · iexact Hm
    isplitl [HO] <;> iassumption
  ihave Hc : core d i C X g (rowNo i t) e 0 $$ [Hi Hr Ho]
  · unfold core
    isplitl [Hi]; · iexact Hi
    isplitl [Hr] <;> iassumption
  rw [wp_bind]
  iapply (gather_wp d i C X g (rowNo i t) e 0 0 (slotSem 0 inb_S4_S1_0) _ fun t u P =>
    trip_wp d i hC (k0_off2_inb t u) (k0_off3_inb t u) (k0_off4_inb t u) (k0_off5_inb t u) (k0_off6_inb t u) (k0_off7_inb t u)
      k0_chk1.dec k0_chk2.dec k0_chk3.dec k0_chk4.dec k0_idx1_inb k0_idx2_inb k0_idx3_inb k0_idx4_inb
      ⟨fun _ _ h => h, fun _ _ h => h, fun _ _ h => h, fun _ _ h => h⟩ (by revert t u; decide +kernel)) $$ Hc H0
  iintro ⟨Hc, H0⟩
  rw [wp_bind]
  iapply (issue_wp d i C X g (rowNo i t) e 0 0 _ _ _ _ (k0_off8_eq i t) (by omega)) $$ Hc H0
  iintro ⟨Hc, H0⟩
  rw [wp_bind]
  iapply (gather_wp d i C X g (rowNo i t) e 1 1 (slotSem 1 inb_S4_S1_1) _ fun t u P =>
    trip_wp d i hC (k0_off9_inb t u) (k0_off10_inb t u) (k0_off11_inb t u) (k0_off12_inb t u) (k0_off13_inb t u) (k0_off14_inb t u)
      k0_chk5.dec k0_chk6.dec k0_chk7.dec k0_chk8.dec k0_idx5_inb k0_idx6_inb k0_idx7_inb k0_idx8_inb
      ⟨fun _ _ h => h, fun _ _ h => h, fun _ _ h => h, fun _ _ h => h⟩ (by revert t u; decide +kernel)) $$ Hc H1
  iintro ⟨Hc, H1⟩
  rw [Prog.pure_eq_ret, wp_ret]; imodintro
  rw [wp_bind]
  unfold k0_part16
  dsimp only
  rw [wp_bind]
  iapply (issue_wp d i C X g (rowNo i t) e 1 1 _ _ _ _ (k0_off15_eq i t) (by omega)) $$ Hc H1
  iintro ⟨Hc, H1⟩
  rw [wp_bind]
  iapply (gather_wp d i C X g (rowNo i t) e 2 2 (slotSem 2 inb_S4_S1_2) _ fun t u P =>
    trip_wp d i hC (k0_off16_inb t u) (k0_off17_inb t u) (k0_off18_inb t u) (k0_off19_inb t u) (k0_off20_inb t u) (k0_off21_inb t u)
      k0_chk9.dec k0_chk10.dec k0_chk11.dec k0_chk12.dec k0_idx9_inb k0_idx10_inb k0_idx11_inb k0_idx12_inb
      ⟨fun _ _ h => h, fun _ _ h => h, fun _ _ h => h, fun _ _ h => h⟩ (by revert t u; decide +kernel)) $$ Hc H2
  iintro ⟨Hc, H2⟩
  rw [wp_bind]
  iapply (issue_wp d i C X g (rowNo i t) e 2 2 _ _ _ _ (k0_off22_eq i t) (by omega)) $$ Hc H2
  iintro ⟨Hc, H2⟩
  rw [wp_bind]
  iapply (gather_wp d i C X g (rowNo i t) e 3 3 (slotSem 3 inb_S4_S1_3) _ fun t u P =>
    trip_wp d i hC (k0_off23_inb t u) (k0_off24_inb t u) (k0_off25_inb t u) (k0_off26_inb t u) (k0_off27_inb t u) (k0_off28_inb t u)
      k0_chk13.dec k0_chk14.dec k0_chk15.dec k0_chk16.dec k0_idx13_inb k0_idx14_inb k0_idx15_inb k0_idx16_inb
      ⟨fun _ _ h => h, fun _ _ h => h, fun _ _ h => h, fun _ _ h => h⟩ (by revert t u; decide +kernel)) $$ Hc H3
  iintro ⟨Hc, H3⟩
  rw [Prog.pure_eq_ret, wp_ret]; imodintro
  rw [wp_bind]
  unfold k0_part17
  dsimp only
  rw [wp_bind]
  iapply (issue_wp d i C X g (rowNo i t) e 3 3 _ _ _ _ (k0_off29_eq i t) (by omega)) $$ Hc H3
  iintro ⟨Hc, H3⟩
  rw [wp_bind]
  iapply (landed_wp d i C X O W b (rowNo i t) 0 0 _ hb) $$ Hd H0
  iintro ⟨Hd, H0⟩
  rw [wp_bind]
  iapply (gather_wp d i C X g (rowNo i t) e 4 0 (slotSem 0 inb_S4_S1_0) _ fun t u P =>
    trip_wp d i hC (k0_off30_inb t u) (k0_off31_inb t u) (k0_off32_inb t u) (k0_off33_inb t u) (k0_off34_inb t u) (k0_off35_inb t u)
      k0_chk17.dec k0_chk18.dec k0_chk19.dec k0_chk20.dec k0_idx17_inb k0_idx18_inb k0_idx19_inb k0_idx20_inb
      ⟨fun _ _ h => h, fun _ _ h => h, fun _ _ h => h, fun _ _ h => h⟩ (by revert t u; decide +kernel)) $$ Hc H0
  iintro ⟨Hc, H0⟩
  rw [wp_bind]
  iapply (issue_wp d i C X g (rowNo i t) e 4 0 _ _ _ _ (k0_off36_eq i t) (by omega)) $$ Hc H0
  iintro ⟨Hc, H0⟩
  rw [Prog.pure_eq_ret, wp_ret]; imodintro
  rw [wp_bind]
  unfold k0_part18
  dsimp only
  rw [wp_bind]
  iapply (landed_wp d i C X O W b (rowNo i t) 1 1 _ hb) $$ Hd H1
  iintro ⟨Hd, H1⟩
  rw [wp_bind]
  iapply (gather_wp d i C X g (rowNo i t) e 5 1 (slotSem 1 inb_S4_S1_1) _ fun t u P =>
    trip_wp d i hC (k0_off37_inb t u) (k0_off38_inb t u) (k0_off39_inb t u) (k0_off40_inb t u) (k0_off41_inb t u) (k0_off42_inb t u)
      k0_chk21.dec k0_chk22.dec k0_chk23.dec k0_chk24.dec k0_idx21_inb k0_idx22_inb k0_idx23_inb k0_idx24_inb
      ⟨fun _ _ h => h, fun _ _ h => h, fun _ _ h => h, fun _ _ h => h⟩ (by revert t u; decide +kernel)) $$ Hc H1
  iintro ⟨Hc, H1⟩
  rw [wp_bind]
  iapply (issue_wp d i C X g (rowNo i t) e 5 1 _ _ _ _ (k0_off43_eq i t) (by omega)) $$ Hc H1
  iintro ⟨Hc, H1⟩
  rw [Prog.pure_eq_ret, wp_ret]; imodintro
  rw [wp_bind]
  unfold k0_part19
  dsimp only
  rw [wp_bind]
  iapply (landed_wp d i C X O W b (rowNo i t) 2 2 _ hb) $$ Hd H2
  iintro ⟨Hd, H2⟩
  rw [wp_bind]
  iapply (gather_wp d i C X g (rowNo i t) e 6 2 (slotSem 2 inb_S4_S1_2) _ fun t u P =>
    trip_wp d i hC (k0_off44_inb t u) (k0_off45_inb t u) (k0_off46_inb t u) (k0_off47_inb t u) (k0_off48_inb t u) (k0_off49_inb t u)
      k0_chk25.dec k0_chk26.dec k0_chk27.dec k0_chk28.dec k0_idx25_inb k0_idx26_inb k0_idx27_inb k0_idx28_inb
      ⟨fun _ _ h => h, fun _ _ h => h, fun _ _ h => h, fun _ _ h => h⟩ (by revert t u; decide +kernel)) $$ Hc H2
  iintro ⟨Hc, H2⟩
  rw [wp_bind]
  iapply (issue_wp d i C X g (rowNo i t) e 6 2 _ _ _ _ (k0_off50_eq i t) (by omega)) $$ Hc H2
  iintro ⟨Hc, H2⟩
  rw [wp_bind]
  iapply (landed_wp d i C X O W b (rowNo i t) 3 3 _ hb) $$ Hd H3
  iintro ⟨Hd, H3⟩
  rw [Prog.pure_eq_ret, wp_ret]; imodintro
  rw [wp_bind]
  unfold k0_part20
  dsimp only
  rw [wp_bind]
  iapply (gather_wp d i C X g (rowNo i t) e 7 3 (slotSem 3 inb_S4_S1_3) _ fun t u P =>
    trip_wp d i hC (k0_off51_inb t u) (k0_off52_inb t u) (k0_off53_inb t u) (k0_off54_inb t u) (k0_off55_inb t u) (k0_off56_inb t u)
      k0_chk29.dec k0_chk30.dec k0_chk31.dec k0_chk32.dec k0_idx29_inb k0_idx30_inb k0_idx31_inb k0_idx32_inb
      ⟨fun _ _ h => h, fun _ _ h => h, fun _ _ h => h, fun _ _ h => h⟩ (by revert t u; decide +kernel)) $$ Hc H3
  iintro ⟨Hc, H3⟩
  rw [wp_bind]
  iapply (issue_wp d i C X g (rowNo i t) e 7 3 _ _ _ _ (k0_off57_eq i t) (by omega)) $$ Hc H3
  iintro ⟨Hc, H3⟩
  rw [wp_bind]
  iapply (landed_wp d i C X O W b (rowNo i t) 4 0 _ hb) $$ Hd H0
  iintro ⟨Hd, H0⟩
  rw [wp_bind]
  iapply (gather_wp d i C X g (rowNo i t) e 8 0 (slotSem 0 inb_S4_S1_0) _ fun t u P =>
    trip_wp d i hC (k0_off58_inb t u) (k0_off59_inb t u) (k0_off60_inb t u) (k0_off61_inb t u) (k0_off62_inb t u) (k0_off63_inb t u)
      k0_chk33.dec k0_chk34.dec k0_chk35.dec k0_chk36.dec k0_idx33_inb k0_idx34_inb k0_idx35_inb k0_idx36_inb
      ⟨fun _ _ h => h, fun _ _ h => h, fun _ _ h => h, fun _ _ h => h⟩ (by revert t u; decide +kernel)) $$ Hc H0
  iintro ⟨Hc, H0⟩
  rw [Prog.pure_eq_ret, wp_ret]; imodintro
  rw [wp_bind]
  unfold k0_part21
  dsimp only
  rw [wp_bind]
  iapply (issue_wp d i C X g (rowNo i t) e 8 0 _ _ _ _ (k0_off64_eq i t) (by omega)) $$ Hc H0
  iintro ⟨Hc, H0⟩
  rw [wp_bind]
  iapply (landed_wp d i C X O W b (rowNo i t) 5 1 _ hb) $$ Hd H1
  iintro ⟨Hd, H1⟩
  rw [wp_bind]
  iapply (gather_wp d i C X g (rowNo i t) e 9 1 (slotSem 1 inb_S4_S1_1) _ fun t u P =>
    trip_wp d i hC (k0_off65_inb t u) (k0_off66_inb t u) (k0_off67_inb t u) (k0_off68_inb t u) (k0_off69_inb t u) (k0_off70_inb t u)
      k0_chk37.dec k0_chk38.dec k0_chk39.dec k0_chk40.dec k0_idx37_inb k0_idx38_inb k0_idx39_inb k0_idx40_inb
      ⟨fun _ _ h => h, fun _ _ h => h, fun _ _ h => h, fun _ _ h => h⟩ (by revert t u; decide +kernel)) $$ Hc H1
  iintro ⟨Hc, H1⟩
  rw [wp_bind]
  iapply (issue_wp d i C X g (rowNo i t) e 9 1 _ _ _ _ (k0_off71_eq i t) (by omega)) $$ Hc H1
  iintro ⟨Hc, H1⟩
  rw [Prog.pure_eq_ret, wp_ret]; imodintro
  rw [wp_bind]
  unfold k0_part22
  dsimp only
  rw [wp_bind]
  iapply (landed_wp d i C X O W b (rowNo i t) 6 2 _ hb) $$ Hd H2
  iintro ⟨Hd, H2⟩
  rw [wp_bind]
  iapply (gather_wp d i C X g (rowNo i t) e 10 2 (slotSem 2 inb_S4_S1_2) _ fun t u P =>
    trip_wp d i hC (k0_off72_inb t u) (k0_off73_inb t u) (k0_off74_inb t u) (k0_off75_inb t u) (k0_off76_inb t u) (k0_off77_inb t u)
      k0_chk41.dec k0_chk42.dec k0_chk43.dec k0_chk44.dec k0_idx41_inb k0_idx42_inb k0_idx43_inb k0_idx44_inb
      ⟨fun _ _ h => h, fun _ _ h => h, fun _ _ h => h, fun _ _ h => h⟩ (by revert t u; decide +kernel)) $$ Hc H2
  iintro ⟨Hc, H2⟩
  rw [wp_bind]
  iapply (issue_wp d i C X g (rowNo i t) e 10 2 _ _ _ _ (k0_off78_eq i t) (by omega)) $$ Hc H2
  iintro ⟨Hc, H2⟩
  rw [Prog.pure_eq_ret, wp_ret]; imodintro
  rw [wp_bind]
  unfold k0_part23
  dsimp only
  rw [wp_bind]
  iapply (landed_wp d i C X O W b (rowNo i t) 7 3 _ hb) $$ Hd H3
  iintro ⟨Hd, H3⟩
  rw [wp_bind]
  iapply (gather_wp d i C X g (rowNo i t) e 11 3 (slotSem 3 inb_S4_S1_3) _ fun t u P =>
    trip_wp d i hC (k0_off79_inb t u) (k0_off80_inb t u) (k0_off81_inb t u) (k0_off82_inb t u) (k0_off83_inb t u) (k0_off84_inb t u)
      k0_chk45.dec k0_chk46.dec k0_chk47.dec k0_chk48.dec k0_idx45_inb k0_idx46_inb k0_idx47_inb k0_idx48_inb
      ⟨fun _ _ h => h, fun _ _ h => h, fun _ _ h => h, fun _ _ h => h⟩ (by revert t u; decide +kernel)) $$ Hc H3
  iintro ⟨Hc, H3⟩
  rw [wp_bind]
  iapply (issue_wp d i C X g (rowNo i t) e 11 3 _ _ _ _ (k0_off85_eq i t) (by omega)) $$ Hc H3
  iintro ⟨Hc, H3⟩
  rw [wp_bind]
  iapply (landed_wp d i C X O W b (rowNo i t) 8 0 _ hb) $$ Hd H0
  iintro ⟨Hd, H0⟩
  rw [Prog.pure_eq_ret, wp_ret]; imodintro
  rw [wp_bind]
  unfold k0_part24
  dsimp only
  rw [wp_bind]
  iapply (gather_wp d i C X g (rowNo i t) e 12 0 (slotSem 0 inb_S4_S1_0) _ fun t u P =>
    trip_wp d i hC (k0_off86_inb t u) (k0_off87_inb t u) (k0_off88_inb t u) (k0_off89_inb t u) (k0_off90_inb t u) (k0_off91_inb t u)
      k0_chk49.dec k0_chk50.dec k0_chk51.dec k0_chk52.dec k0_idx49_inb k0_idx50_inb k0_idx51_inb k0_idx52_inb
      ⟨fun _ _ h => h, fun _ _ h => h, fun _ _ h => h, fun _ _ h => h⟩ (by revert t u; decide +kernel)) $$ Hc H0
  iintro ⟨Hc, H0⟩
  rw [wp_bind]
  iapply (issue_wp d i C X g (rowNo i t) e 12 0 _ _ _ _ (k0_off92_eq i t) (by omega)) $$ Hc H0
  iintro ⟨Hc, H0⟩
  rw [wp_bind]
  iapply (landed_wp d i C X O W b (rowNo i t) 9 1 _ hb) $$ Hd H1
  iintro ⟨Hd, H1⟩
  rw [wp_bind]
  iapply (gather_wp d i C X g (rowNo i t) e 13 1 (slotSem 1 inb_S4_S1_1) _ fun t u P =>
    trip_wp d i hC (k0_off93_inb t u) (k0_off94_inb t u) (k0_off95_inb t u) (k0_off96_inb t u) (k0_off97_inb t u) (k0_off98_inb t u)
      k0_chk53.dec k0_chk54.dec k0_chk55.dec k0_chk56.dec k0_idx53_inb k0_idx54_inb k0_idx55_inb k0_idx56_inb
      ⟨fun _ _ h => h, fun _ _ h => h, fun _ _ h => h, fun _ _ h => h⟩ (by revert t u; decide +kernel)) $$ Hc H1
  iintro ⟨Hc, H1⟩
  rw [Prog.pure_eq_ret, wp_ret]; imodintro
  rw [wp_bind]
  unfold k0_part25
  dsimp only
  rw [wp_bind]
  iapply (issue_wp d i C X g (rowNo i t) e 13 1 _ _ _ _ (k0_off99_eq i t) (by omega)) $$ Hc H1
  iintro ⟨Hc, H1⟩
  rw [wp_bind]
  iapply (landed_wp d i C X O W b (rowNo i t) 10 2 _ hb) $$ Hd H2
  iintro ⟨Hd, H2⟩
  rw [wp_bind]
  iapply (landed_wp d i C X O W b (rowNo i t) 11 3 _ hb) $$ Hd H3
  iintro ⟨Hd, H3⟩
  rw [Prog.pure_eq_ret, wp_ret]; imodintro
  rw [wp_bind]
  iapply (landed_wp d i C X O W b (rowNo i t) 12 0 _ hb) $$ Hd H0
  iintro ⟨Hd, H0⟩
  rw [wp_bind]
  iapply (landed_wp d i C X O W b (rowNo i t) 13 1 _ hb) $$ Hd H1
  iintro ⟨Hd, H1⟩
  rw [wp_ret]; imodintro
  unfold core doneTo
  icases Hc with ⟨Hi, Hr, Ho⟩
  icases Hd with ⟨Hm', HO, Hd⟩
  rw [show 224 * (rowNo i t + 1) = 224 * rowNo i t + 16 * 14 by omega]
  isplitl [Hi]; · iexact Hi
  isplitl [Hx]; · iexact Hx
  isplitl [Hr]; · iexists _; iexact Hr
  isplitl [Ho]; · iexact Ho
  isplitl [Hv]; · iexact Hv
  isplitl [HO Hd]
  · isplitr; · iexact Hm
    isplitl [HO] <;> iassumption
  isplitl [H0]; · iexact H0
  isplitl [H1]; · iexact H1
  isplitl [H2] <;> iassumption

end Cert.Proof.Gather

end
-- ==== Proof.Body.lean ====
/-
  A tile's whole task: the code list copied in, then the tile's forty-eight rows.
-/
module

public import proofs.«01_k».proof.Proof.Row

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The ring of slots -/

/-- Two disjoint parts of a buffer, at some contents each, are their union at some contents. -/
theorem some_union {ℓ : Loc nD τ sig} {S T : Finset (Idx ℓ)} (h : Disjoint S T) :
    iprop(∃ f, ℓ ↦[S ∪ T]{fullShare} f) ⊣⊢ (iprop((∃ f, ℓ ↦[S]{fullShare} f) ∗ ∃ f, ℓ ↦[T]{fullShare} f) : sProp 𝕄) := by
  constructor
  · iintro ⟨%f, H⟩
    ihave H := (pointsTo_union h).1 $$ H
    icases H with ⟨H1, H2⟩
    isplitl [H1]
    · iexists f; iexact H1
    · iexists f; iexact H2
  · iintro ⟨⟨%f, H1⟩, %g, H2⟩
    iexists _
    iapply (pointsTo_join h)
    isplitl [H1] <;> iassumption

theorem slots_univ : (Finset.univ : Finset S4x16x224.Idx) = slotSet 0 ∪ (slotSet 1 ∪ (slotSet 2 ∪ slotSet 3)) := by
  ext x
  have h : (x 0).val < 4 := (x 0).isLt
  simp only [slotSet, Finset.mem_union, Finset.mem_filter, Finset.mem_univ, true_and, true_iff]
  omega

theorem slots_disjoint {a b : Nat} (h : a ≠ b) : Disjoint (slotSet a) (slotSet b) :=
  Finset.disjoint_filter.mpr fun _ _ h₁ h₂ => h (h₁.symm.trans h₂)

/-- The four slots are the ring. -/
theorem slots_split (d : Dev nD) (i : grid0.Coords) :
    (iprop(∃ f, outLoc d i ↦{fullShare} f) : sProp 𝕄) ⊣⊢ iprop((∃ f, outLoc d i ↦[slotSet 0]{fullShare} f) ∗ (∃ f, outLoc d i ↦[slotSet 1]{fullShare} f)
      ∗ (∃ f, outLoc d i ↦[slotSet 2]{fullShare} f) ∗ ∃ f, outLoc d i ↦[slotSet 3]{fullShare} f) := by
  have d₁ : Disjoint (slotSet 0) (slotSet 1 ∪ (slotSet 2 ∪ slotSet 3)) := by
    simp only [Finset.disjoint_union_right]
    exact ⟨slots_disjoint (by decide), slots_disjoint (by decide), slots_disjoint (by decide)⟩
  have d₂ : Disjoint (slotSet 1) (slotSet 2 ∪ slotSet 3) := by
    simp only [Finset.disjoint_union_right]
    exact ⟨slots_disjoint (by decide), slots_disjoint (by decide)⟩
  have d₃ : Disjoint (slotSet 2) (slotSet 3) := slots_disjoint (by decide)
  rw [show (Finset.univ : Finset (Idx (outLoc d i))) = _ from slots_univ]
  constructor
  · exact (some_union d₁).1.trans (sep_mono_right ((some_union d₂).1.trans (sep_mono_right (some_union d₃).1)))
  · exact (sep_mono_right ((sep_mono_right (some_union d₃).2).trans (some_union d₂).2)).trans (some_union d₁).2

/-! ## What a tile owns -/

theorem cell_ne {t : Thread nD τ} {a b : SemLoc sig} (h : a ≠ b) : ((t, a) : GSem nD τ sig) ≠ (t, b) := fun e => h (Prod.mk.inj e).2

theorem own_cell (d : Dev nD) (i : grid0.Coords) {a : SemLoc sig} (h : a.isScoped .scVector = true) : ((thr d i, a) : GSem nD τ sig) ∈ SparseCore.Cfg.ownCells (thr d i) :=
  (SparseCore.Cfg.mem_ownCells (g := (thr d i, a))).mpr ⟨rfl, h⟩

abbrev slotCell (d : Dev nD) (i : grid0.Coords) (s : Nat) (hs : ∀ a, (![s] : Fin 1 → Nat) a + S1.size a ≤ S4.size a) : GSem nD τ sig :=
  (thr d i, .dma (slotSem s hs))

/-- The six semaphores the kernel uses, and the rest. -/
theorem ownSems_eq (d : Dev nD) (i : grid0.Coords) :
    (SparseCore.Cfg.ownSems0 (thr d i) : sProp 𝕄)
      = iprop(semVal (slotCell d i 0 inb_S4_S1_0) 0 ∗ semVal (slotCell d i 1 inb_S4_S1_1) 0 ∗ semVal (slotCell d i 2 inb_S4_S1_2) 0
          ∗ semVal (slotCell d i 3 inb_S4_S1_3) 0 ∗ semVal ((thr d i, .dma cc0_scratch4.sem) : GSem nD τ sig) 0
          ∗ semVal ((thr d i, .dma cc0_scoped0.sem) : GSem nD τ sig) 0
          ∗ bigSep (((((((SparseCore.Cfg.ownCells (thr d i)).erase (slotCell d i 0 inb_S4_S1_0)).erase (slotCell d i 1 inb_S4_S1_1)).erase
              (slotCell d i 2 inb_S4_S1_2)).erase (slotCell d i 3 inb_S4_S1_3)).erase (thr d i, .dma cc0_scratch4.sem)).erase
              (thr d i, .dma cc0_scoped0.sem)) fun g => semVal g 0) := by
  unfold SparseCore.Cfg.ownSems0
  rw [SparseCore.bigSep_erase' (i := slotCell d i 0 inb_S4_S1_0) (own_cell d i (by decide)),
    SparseCore.bigSep_erase' (i := slotCell d i 1 inb_S4_S1_1) (by simp only [Finset.mem_erase]; exact ⟨cell_ne (by decide), own_cell d i (by decide)⟩),
    SparseCore.bigSep_erase' (i := slotCell d i 2 inb_S4_S1_2)
      (by simp only [Finset.mem_erase]; exact ⟨cell_ne (by decide), cell_ne (by decide), own_cell d i (by decide)⟩),
    SparseCore.bigSep_erase' (i := slotCell d i 3 inb_S4_S1_3)
      (by simp only [Finset.mem_erase]; exact ⟨cell_ne (by decide), cell_ne (by decide), cell_ne (by decide), own_cell d i (by decide)⟩),
    SparseCore.bigSep_erase' (i := ((thr d i, .dma cc0_scratch4.sem) : GSem nD τ sig))
      (by simp only [Finset.mem_erase]
          exact ⟨cell_ne (by decide), cell_ne (by decide), cell_ne (by decide), cell_ne (by decide), own_cell d i (by decide)⟩),
    SparseCore.bigSep_erase' (i := ((thr d i, .dma cc0_scoped0.sem) : GSem nD τ sig))
      (by simp only [Finset.mem_erase]
          exact ⟨cell_ne (by decide), cell_ne (by decide), cell_ne (by decide), cell_ne (by decide), cell_ne (by decide), own_cell d i (by decide)⟩)]

/-- The three scratch buffers, and the rest. -/
theorem ownBufs_eq (d : Dev nD) (i : grid0.Coords) :
    (SparseCore.Cfg.ownBufs (thr d i) : sProp 𝕄)
      = iprop((∃ f, idxLoc d i ↦{fullShare} f) ∗ (∃ f, rowLoc d i ↦{fullShare} f) ∗ (∃ f, outLoc d i ↦{fullShare} f)
          ∗ bigSep ((((SparseCore.Cfg.ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  have ne : ∀ {a b : Ref sig .scVector}, a ≠ b → (Proc.scVector (cV i) (jV i)).devRef a ≠ (Proc.scVector (cV i) (jV i)).devRef b :=
    fun h e => h (Proc.devRef_injective _ e)
  have own : ∀ {b : Ref sig .scVector}, ((Proc.scVector (cV i) (jV i)).devRef b).owner = .proc (.scVector (cV i) (jV i)) →
      (Proc.scVector (cV i) (jV i)).devRef b ∈ SparseCore.Cfg.ownRefs (τ := τ) (.scVector (cV i) (jV i)) :=
    fun h => SparseCore.Cfg.mem_ownRefs_of_owner h
  unfold SparseCore.Cfg.ownBufs
  refine (SparseCore.bigSep_erase' (i := (Proc.scVector (cV i) (jV i)).devRef cc0_scratch0) (own rfl)).trans ?_
  rw [SparseCore.bigSep_erase' (i := (Proc.scVector (cV i) (jV i)).devRef cc0_scratch1) (Finset.mem_erase.mpr ⟨ne (by decide),
      own rfl⟩),
    SparseCore.bigSep_erase' (i := (Proc.scVector (cV i) (jV i)).devRef cc0_scratch2) (Finset.mem_erase.mpr ⟨ne (by decide),
      Finset.mem_erase.mpr ⟨ne (by decide), own rfl⟩⟩)]

/-! ## The task -/

/-- The first of tile `i`'s rows. -/
abbrev base (i : grid0.Coords) : Nat := 96 * (i 1).val + 48 * (i 0).val

/-- What a tile is handed: a read share of the rows and of the codes, and its own lines of the result. -/
def taskIn (d : Dev nD) (i : grid0.Coords) (q : PosShare TreeShare) (C : S25088.Idx → BitVec 32) (X g : S1536x224x224.Idx → F .f32) : sProp 𝕄 :=
  iprop((cLoc d ↦{q} C) ∗ (xLoc d ↦{q} X) ∗ (oLoc d ↦[lineSet (224 * base i) (224 * (base i + 48))]{fullShare} g))

theorem tile_body (d : Dev nD) (i : grid0.Coords) (hF : (K (F := F)).Facts) (q : PosShare TreeShare)
    (C : S25088.Idx → BitVec 32) (hC : okCodes C) (X g : S1536x224x224.Idx → F .f32)
    (O : CellTallies nD τ sig (HIx 1)) (W : Waits sig (HIx 1)) (hO : ∀ g, O g none = 0) :
    iprop(levAts (K (F := F)).L (K (F := F)).lev ∗ emp ∗ taskIn d i q C X g ∗ scopedBufs (thr d i) ∗ scopedSems0 (thr d i) ∗ owes (thr d i) O W)
      ⊢ wp frame (wpE (defs₀ (F := F)) 𝒱₀ (thr d i) none) Set.univ
          (cc0__jumble_body i xM (Memref.isWhole_whole _) cM (Memref.isWhole_whole _) oM (Memref.isWhole_whole _) idxM (Memref.isWhole_whole _)
            rowM (Memref.isWhole_whole _) outM (Memref.isWhole_whole _) cc0_scratch3 cc0_scratch4 cc0_scoped0)
          fun _ => iprop(taskIn d i q C X (outVal C X) ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems_eq, ownBufs_eq]
  unfold cc0__jumble_body taskIn
  dsimp only
  iintro ⟨#Hlv, -, ⟨Hc, Hx, Ho⟩, ⟨Hi, Hr, Hs, Hbufs⟩, ⟨Hv0, Hv1, Hv2, Hv3, Hv4, Hv5, Hsems⟩, HO⟩
  ihave #Hm := ((K (F := F)).mayWaits_none (thr := thr d i) hO) $$ Hlv
  ihave HO : ow d i O W $$ [HO]
  · unfold ow; iexists W; isplitr
    · ipureintro; exact fun p hp => .inl hp
    · iexact HO
  rw [wp_bind]
  rw [wp_bind]
  iapply (codesIn_wp d i C q O W _) $$ [Hc Hi Hv5 HO]
  · isplitl [Hc]; · iexact Hc
    isplitl [Hi]; · iexact Hi
    isplitl [Hv5]; · iexact Hv5
    isplitl [HO]; · iexact HO
    iexact Hm
  iintro ⟨Hc, Hi, Hv5, HO⟩
  ihave Hs := (slots_split d i).1 $$ Hs
  icases Hs with ⟨Hs0, Hs1, Hs2, Hs3⟩
  rw [wp_bind]
  iapply (Scf.wp_for frame (wpE (defs₀ (F := F)) 𝒱₀ (thr d i) none) Set.univ _ _ _ _ _ _
    (fun t _ => rowInv d i C X g q O W (224 * base i) (224 * (base i + 48)) (base i + t)) ?hb)
  case hb =>
    intro t _
    have ht : t.val < 48 := lt_of_lt_of_eq t.isLt (by decide)
    exact row_wp d i C hC X g q O W _ _ _ _ _ t (by show 224 * base i ≤ 224 * (base i + t.val); omega)
      (by show 224 * (base i + t.val) + 224 ≤ 224 * (base i + 48); omega)
  isplitr [Hc Hv5 Hbufs Hsems]
  · unfold rowInv free
    isplitl [Hi]; · iexact Hi
    isplitl [Hx]; · iexact Hx
    isplitl [Hr]; · iexact Hr
    isplitl [Ho]; · iexact Ho
    isplitl [Hv4]; · iexact Hv4
    isplitl [HO]
    · isplitr; · iexact Hm
      isplitl [HO]; · iexact HO
      rw [show lineSet (224 * base i) (224 * (base i + 0)) = ∅ from Finset.filter_eq_empty_iff.mpr fun x _ h => by omega]
      rw [pointsTo_empty]; iempintro
    isplitl [Hv0 Hs0]; · isplitl [Hv0] <;> iassumption
    isplitl [Hv1 Hs1]; · isplitl [Hv1] <;> iassumption
    isplitl [Hv2 Hs2]; · isplitl [Hv2] <;> iassumption
    isplitl [Hv3] <;> iassumption
  iintro %_ H
  rw [show Scf.trips k0_t1_loop.lb k0_t1_loop.ub k0_t1_loop.st = 48 by decide]
  unfold rowInv free
  icases H with ⟨Hi, Hx, Hr, -, Hv4, ⟨-, HO, Ho⟩, ⟨Hv0, Hs0⟩, ⟨Hv1, Hs1⟩, ⟨Hv2, Hs2⟩, ⟨Hv3, Hs3⟩⟩
  rw [Prog.pure_eq_ret, wp_ret]; imodintro
  isplitl [Hc Hx Ho]
  · isplitl [Hc]; · iexact Hc
    isplitl [Hx]; · iexact Hx
    iexact Ho
  isplitl [Hi Hr Hs0 Hs1 Hs2 Hs3 Hbufs]
  · isplitl [Hi]; · iexists _; iexact Hi
    isplitl [Hr]; · iexact Hr
    isplitl [Hs0 Hs1 Hs2 Hs3]
    · iapply (slots_split d i).2
      isplitl [Hs0]; · iexact Hs0
      isplitl [Hs1]; · iexact Hs1
      isplitl [Hs2] <;> iassumption
    · iexact Hbufs
  isplitr [HO]
  · isplitl [Hv0]; · iexact Hv0
    isplitl [Hv1]; · iexact Hv1
    isplitl [Hv2]; · iexact Hv2
    isplitl [Hv3]; · iexact Hv3
    isplitl [Hv4]; · iexact Hv4
    isplitl [Hv5] <;> iassumption
  unfold ow
  iexact HO

end Cert.Proof.Gather

end
-- ==== Proof.Host.lean ====
/-
  The host operations around the gather. Before the call they make the code list: the quotient and the remainder of
  every index by 224 packed as two bytes, and the codes packed in pairs, sixteen lanes low and sixteen lanes high, into
  one word each. This module states the operations as a list, proves that the printed program is that list, the call
  and one reshape, and reads off what the two arrays the call takes then hold.
-/
module

public import proofs.«01_k».proof.Proof.Setup
public import Idealize.ShloMosaic.Lib.StableHlo.RunRead
public import Idealize.ShloMosaic.Lib.StableHlo.RunHlo
public import Idealize.ShloMosaic.Lib.Pipeline.Frame

@[expose] public section

noncomputable section

namespace Cert.Proof.Gather

open Cert.KernelIdeal Cert.KernelIdeal.Gen Cert.KernelIdeal.Facts

open Idealize.ShloMosaic
open Idealize.SL Idealize.SL.Sem

variable {F : FTy → Type} [FloatOps F]

/-- The contents of an array of shape `s`. -/
abbrev Arr (F : FTy → Type) (s : Shape) (e : EltTy) : Type := (⟨s, e⟩ : BufTy).Contents (Elt F)

/-! ## The operations -/

/-- The operations of the quotient by a scalar, rounded down. -/
def quotOps (arg0 : StableHlo.TRef sig ⟨S50176, .i32⟩) (arg1 : StableHlo.TRef sig ⟨S_, .i32⟩) (φ : fn_floor_divide.Bufs) :
    List (HloOp τ sig (Elt F)) :=
  [StableHlo.TRef.unary arg1 φ.v0 id,
   StableHlo.TRef.unary φ.v0 φ.v1 (broadcastInDim S50176 ![] bcast_S_S50176),
   StableHlo.TRef.binary arg0 φ.v1 φ.v2 Host.divsi,
   StableHlo.TRef.unary arg0 φ.v3 signi,
   StableHlo.TRef.unary φ.v0 φ.v4 signi,
   StableHlo.TRef.unary φ.v4 φ.v5 (broadcastInDim S50176 ![] bcast_S_S50176),
   StableHlo.TRef.binary φ.v3 φ.v5 φ.v6 (cmpi .ne),
   StableHlo.TRef.unary φ.v0 φ.v7 (broadcastInDim S50176 ![] bcast_S_S50176),
   StableHlo.TRef.binary arg0 φ.v7 φ.v8 Host.remsi,
   StableHlo.TRef.nullary φ.c (constantI S_ 32 0#32),
   StableHlo.TRef.unary φ.c φ.v9 (broadcastInDim S50176 ![] bcast_S_S50176),
   StableHlo.TRef.binary φ.v8 φ.v9 φ.v10 (cmpi .ne),
   StableHlo.TRef.binary φ.v6 φ.v10 φ.v11 andi,
   StableHlo.TRef.nullary φ.c_0 (constantI S_ 32 1#32),
   StableHlo.TRef.unary φ.c_0 φ.v12 (broadcastInDim S50176 ![] bcast_S_S50176),
   StableHlo.TRef.binary φ.v2 φ.v12 φ.v13 subi,
   StableHlo.TRef.ternary φ.v11 φ.v13 φ.v2 φ.call0.v0 select]

/-- The operations of the remainder of that quotient. -/
def remOps (arg0 : StableHlo.TRef sig ⟨S50176, .i32⟩) (arg1 : StableHlo.TRef sig ⟨S_, .i32⟩) (φ : fn_remainder.Bufs) :
    List (HloOp τ sig (Elt F)) :=
  [StableHlo.TRef.unary arg1 φ.v0 id,
   StableHlo.TRef.nullary φ.c (constantI S_ 32 0#32),
   StableHlo.TRef.binary φ.v0 φ.c φ.v1 (cmpi .eq),
   StableHlo.TRef.nullary φ.c_0 (constantI S_ 32 1#32),
   StableHlo.TRef.ternary φ.v1 φ.c_0 φ.v0 φ.call0.v0 select,
   StableHlo.TRef.unary φ.call0.v0 φ.v3 (broadcastInDim S50176 ![] bcast_S_S50176),
   StableHlo.TRef.binary arg0 φ.v3 φ.v4 Host.remsi,
   StableHlo.TRef.nullary φ.c_1 (constantI S_ 32 0#32),
   StableHlo.TRef.unary φ.c_1 φ.v5 (broadcastInDim S50176 ![] bcast_S_S50176),
   StableHlo.TRef.binary φ.v4 φ.v5 φ.v6 (cmpi .ne),
   StableHlo.TRef.nullary φ.c_2 (constantI S_ 32 0#32),
   StableHlo.TRef.unary φ.c_2 φ.v7 (broadcastInDim S50176 ![] bcast_S_S50176),
   StableHlo.TRef.binary φ.v4 φ.v7 φ.v8 (cmpi .slt),
   StableHlo.TRef.nullary φ.c_3 (constantI S_ 32 0#32),
   StableHlo.TRef.binary φ.call0.v0 φ.c_3 φ.v9 (cmpi .slt),
   StableHlo.TRef.unary φ.v9 φ.v10 (broadcastInDim S50176 ![] bcast_S_S50176),
   StableHlo.TRef.binary φ.v8 φ.v10 φ.v11 (cmpi .ne),
   StableHlo.TRef.binary φ.v11 φ.v6 φ.v12 andi,
   StableHlo.TRef.unary φ.call0.v0 φ.v13 (broadcastInDim S50176 ![] bcast_S_S50176),
   StableHlo.TRef.binary φ.v4 φ.v13 φ.v14 addi,
   StableHlo.TRef.ternary φ.v12 φ.v14 φ.v4 φ.v15 select]

/-- The operations up to the quotient's. -/
def headOps : List (HloOp τ sig (Elt F)) :=
  [StableHlo.reshape main_arg0 main_v0 (rfl : (.f32 : EltTy) = .f32) shapeCasts_S8x192x224x224_S1536x224x224,
   StableHlo.nullary main_c (constantI S_ 32 224#32)]

/-- The operations between the quotient's and the remainder's. -/
def midOps : List (HloOp τ sig (Elt F)) :=
  [StableHlo.nullary main_c_0 (constantI S_ 32 8#32),
   StableHlo.unary main_c_0 main_v2 (broadcastInDim S50176 ![] bcast_S_S50176 : Arr F S_ .i32 → Arr F S50176 .i32),
   StableHlo.binary main_v1 main_v2 main_v3 (Host.shli : Arr F S50176 .i32 → Arr F S50176 .i32 → Arr F S50176 .i32),
   StableHlo.nullary main_c_1 (constantI S_ 32 224#32)]

/-- The operations from the remainder's to the call: the codes, and their packing. -/
def packOps : List (HloOp τ sig (Elt F)) :=
  [StableHlo.binary main_v3 main_v4 main_v5 (ori : Arr F S50176 .i32 → Arr F S50176 .i32 → Arr F S50176 .i32),
   StableHlo.reshape main_v5 main_v6 (rfl : (.i32 : EltTy) = .i32) shapeCasts_S50176_S1568x2x16,
   StableHlo.unary main_v6 main_v7 ((extractStridedSlice S1568x1x16 ![0, 0, 0] · slices_S1568x2x16_S1568x1x16_0_0_0) : Arr F S1568x2x16 .i32 → Arr F S1568x1x16 .i32),
   StableHlo.reshape main_v7 main_v8 (rfl : (.i32 : EltTy) = .i32) shapeCasts_S1568x1x16_S1568x16,
   StableHlo.unary main_v6 main_v9 ((extractStridedSlice S1568x1x16 ![0, 1, 0] · slices_S1568x2x16_S1568x1x16_0_1_0) : Arr F S1568x2x16 .i32 → Arr F S1568x1x16 .i32),
   StableHlo.reshape main_v9 main_v10 (rfl : (.i32 : EltTy) = .i32) shapeCasts_S1568x1x16_S1568x16,
   StableHlo.nullary main_c_2 (constantI S_ 32 16#32),
   StableHlo.unary main_c_2 main_v11 (broadcastInDim S1568x16 ![] bcast_S_S1568x16 : Arr F S_ .i32 → Arr F S1568x16 .i32),
   StableHlo.binary main_v10 main_v11 main_v12 (Host.shli : Arr F S1568x16 .i32 → Arr F S1568x16 .i32 → Arr F S1568x16 .i32),
   StableHlo.binary main_v8 main_v12 main_v13 (ori : Arr F S1568x16 .i32 → Arr F S1568x16 .i32 → Arr F S1568x16 .i32),
   StableHlo.reshape main_v13 main_v14 (rfl : (.i32 : EltTy) = .i32) shapeCasts_S1568x16_S25088]

/-- Every operation before the call. -/
def hostOps : List (HloOp τ sig (Elt F)) :=
  headOps ++ quotOps (.of main_arg1) (.of main_c) main_call0 ++ midOps ++ remOps (.of main_arg1) (.of main_c_1) main_call1 ++ packOps

/-- The one operation after it. -/
def lastOp : HloOp τ sig (Elt F) :=
  StableHlo.reshape main_v15 main_v16 (rfl : (.f32 : EltTy) = .f32) shapeCasts_S1536x224x224_S8x192x224x224

theorem main_eq (d : Dev nD) :
    main (F := F) d = StableHlo.seq hostOps >>= fun _ => (K (F := F)).run d 0 >>= fun _ => hlo rfl lastOp fun _ => .ret ⟨⟩ := by
  simp only [main, hostOps, headOps, midOps, packOps, quotOps, remOps, fn_floor_divide.body, fn_remainder.body, fn_where.body,
    fn_where_0.body, StableHlo.seq, List.cons_append, List.nil_append, bind_assoc, pure_bind]
  rfl

end Cert.Proof.Gather

end
-- ==== Proof.Codes.lean ====
/-
  The values of the host operations before the call. The printed quotient and remainder by 224 are the plain ones at
  every index below 224 · 224, so a code is the quotient's byte above the remainder's; the packed word at `16 q + l` holds
  the codes at `32 q + l` and `32 q + 16 + l`; and the code the gather reads for output position `(y, w)` is the code of
  the index at `224 y + w`.
-/
module
public import proofs.«01_k».proof.Proof.Host
public import Idealize.ShloMosaic.Lib.Pipeline.Value
public import Idealize.ShloMosaic.Lib.ValueIdxCore
@[expose] public section

noncomputable section
namespace Cert.Proof.Gather
open Cert.KernelIdeal Cert.KernelIdeal.Gen Cert.KernelIdeal.Facts
open Idealize.ShloMosaic
open Idealize.SL Idealize.SL.Sem
open Idealize.ShloMosaic.StableHlo (after)
variable {F : FTy → Type} [FloatOps F]

/-! ## What the operations compute -/

/-- A scalar at every index of a list of indices. -/
def all (c : BitVec 32) : IVec S50176 32 := broadcastInDim S50176 ![] bcast_S_S50176 (constantI S_ 32 c)

/-- The quotients of the indices by 224, as computed. -/
def quotArr (I : IVec S50176 32) : IVec S50176 32 :=
  select (andi (cmpi .ne (signi I) (broadcastInDim S50176 ![] bcast_S_S50176 (signi (constantI S_ 32 224#32)))) (cmpi .ne (Host.remsi I (all 224#32)) (all 0#32)))
    (subi (Host.divsi I (all 224#32)) (all 1#32)) (Host.divsi I (all 224#32))

/-- The divisor the remainder takes: 224, which is not zero. -/
def divisor : IVec S_ 32 := select (cmpi .eq (constantI S_ 32 224#32) (constantI S_ 32 0#32)) (constantI S_ 32 1#32) (constantI S_ 32 224#32)

/-- The remainders of the indices by 224, as computed. -/
def remArr (I : IVec S50176 32) : IVec S50176 32 :=
  let b := broadcastInDim S50176 ![] bcast_S_S50176 divisor
  let r := Host.remsi I b
  select (andi (cmpi .ne (cmpi .slt r (all 0#32)) (broadcastInDim S50176 ![] bcast_S_S50176 (cmpi .slt divisor (constantI S_ 32 0#32)))) (cmpi .ne r (all 0#32)))
    (addi r b) r

/-- The codes of the indices, as computed. -/
def codeArr (I : IVec S50176 32) : IVec S50176 32 := ori (Host.shli (quotArr I) (all 8#32)) (remArr I)

/-- The codes in rows of two by sixteen, packed in pairs, as computed. -/
def packArr (I : IVec S50176 32) : IVec S25088 32 :=
  let A := shapeCast S1568x2x16 (codeArr I) shapeCasts_S50176_S1568x2x16
  shapeCast S25088
    (ori (shapeCast S1568x16 (extractStridedSlice S1568x1x16 ![0, 0, 0] A slices_S1568x2x16_S1568x1x16_0_0_0) shapeCasts_S1568x1x16_S1568x16)
      (Host.shli (shapeCast S1568x16 (extractStridedSlice S1568x1x16 ![0, 1, 0] A slices_S1568x2x16_S1568x1x16_0_1_0) shapeCasts_S1568x1x16_S1568x16)
        (broadcastInDim S1568x16 ![] bcast_S_S1568x16 (constantI S_ 32 16#32))))
    shapeCasts_S1568x16_S25088

theorem codes_read (V : Valuation τ sig (Elt F)) :
    after hostOps V (Proc.devRef .tc main_v14) = packArr (V (Proc.devRef .tc main_arg1)) := by
  unfold hostOps headOps midOps packOps quotOps remOps
  simp only [List.cons_append, List.nil_append]
  after_reads_simp
  simp only [StableHlo.TRef.ofBuf_toBuf]
  rfl

theorem planes_read (V : Valuation τ sig (Elt F)) :
    after hostOps V (Proc.devRef .tc main_v0)
      = shapeCast S1536x224x224 (V (Proc.devRef .tc main_arg0) : Arr F S8x192x224x224 .f32) shapeCasts_S8x192x224x224_S1536x224x224 := by
  unfold hostOps headOps midOps packOps quotOps remOps
  simp only [List.cons_append, List.nil_append]
  after_reads_simp
  rfl
theorem x_read (V : Valuation τ sig (Elt F)) :
    after hostOps V (Proc.devRef .tc main_arg0) = V (Proc.devRef .tc main_arg0) := by
  unfold hostOps headOps midOps packOps quotOps remOps
  simp only [List.cons_append, List.nil_append]
  after_reads_simp
theorem i_read (V : Valuation τ sig (Elt F)) :
    after hostOps V (Proc.devRef .tc main_arg1) = V (Proc.devRef .tc main_arg1) := by
  unfold hostOps headOps midOps packOps quotOps remOps
  simp only [List.cons_append, List.nil_append]
  after_reads_simp
theorem o_read (V : Valuation τ sig (Elt F)) :
    after hostOps V (Proc.devRef .tc main_v15) = V (Proc.devRef .tc main_v15) := by
  unfold hostOps headOps midOps packOps quotOps remOps
  simp only [List.cons_append, List.nil_append]
  after_reads_simp

/-! ## At an index below the plane -/

theorem sdiv_small (w : BitVec 32) (h : w.toNat < 50176) : w.sdiv 224#32 = w / 224#32 := by
  have hm : w.msb = false := by rw [BitVec.msb_eq_decide]; simp; omega
  rw [BitVec.sdiv_eq, hm]; rfl

theorem srem_small (w : BitVec 32) (h : w.toNat < 50176) : w.srem 224#32 = w % 224#32 := by
  have hm : w.msb = false := by rw [BitVec.msb_eq_decide]; simp; omega
  rw [BitVec.srem_eq, hm]; rfl

theorem not_corner (w : BitVec 32) : ¬ IntOp.SDivCorner w 224#32 := by
  unfold IntOp.SDivCorner; simp

theorem quotArr_at (I : IVec S50176 32) (x : S50176.Idx) (h : (I x).toNat < 50176) : quotArr I x = I x / 224#32 := by
  have hm : (I x).msb = false := by rw [BitVec.msb_eq_decide]; simp; omega
  show Scalar.select (IntOp.andi (IntOp.cmpi .ne (if I x = 0 then 0 else if (I x).msb then -1 else 1)
      (if 224#32 = 0 then 0 else if (224#32).msb then -1 else 1))
      (IntOp.cmpi .ne (IntOp.remsi .host (I x) 224#32) 0#32)) (IntOp.subi (IntOp.divsi .host (I x) 224#32) 1#32) (IntOp.divsi .host (I x) 224#32) = _
  rw [show IntOp.divsi .host (I x) 224#32 = I x / 224#32 by rw [IntOp.divsi, if_neg (not_corner _), sdiv_small _ h],
    show IntOp.remsi .host (I x) 224#32 = I x % 224#32 by rw [IntOp.remsi, if_neg (not_corner _), srem_small _ h]]
  by_cases h0 : I x = 0
  · simp [h0, IntOp.cmpi, IntOp.andi, Scalar.select]
  · rw [if_neg h0, hm, if_neg (by decide : ¬ (224#32 : BitVec 32) = 0), show (224#32 : BitVec 32).msb = false by decide]
    simp [IntOp.cmpi, IntOp.andi, Scalar.select]

theorem remArr_at (I : IVec S50176 32) (x : S50176.Idx) (h : (I x).toNat < 50176) : remArr I x = I x % 224#32 := by
  show Scalar.select (IntOp.andi (IntOp.cmpi .ne (IntOp.cmpi .slt (IntOp.remsi .host (I x) 224#32) 0#32) 0#1)
      (IntOp.cmpi .ne (IntOp.remsi .host (I x) 224#32) 0#32)) (IntOp.addi (IntOp.remsi .host (I x) 224#32) 224#32) (IntOp.remsi .host (I x) 224#32) = _
  rw [show IntOp.remsi .host (I x) 224#32 = I x % 224#32 by rw [IntOp.remsi, if_neg (not_corner _), srem_small _ h]]
  have : (I x % 224#32).slt 0#32 = false := by
    have hr : (I x % 224#32).toNat < 224 := by rw [BitVec.toNat_umod]; exact Nat.mod_lt _ (by decide)
    rw [BitVec.slt_eq_decide]
    simp only [decide_eq_false_iff_not, not_lt]
    rw [show (0#32).toInt = 0 from rfl, BitVec.toInt_eq_toNat_of_lt (by omega)]
    exact Int.natCast_nonneg _
  simp [this, IntOp.cmpi, IntOp.andi, Scalar.select]

/-- The code of an index: its quotient by 224 in the second byte, its remainder in the first. -/
def codeOf (w : BitVec 32) : BitVec 32 := BitVec.ofNat 32 (w.toNat / 224 * 256 + w.toNat % 224)

theorem codeOf_toNat (w : BitVec 32) (h : w.toNat < 50176) : (codeOf w).toNat = w.toNat / 224 * 256 + w.toNat % 224 := by
  unfold codeOf; rw [BitVec.toNat_ofNat]; apply Nat.mod_eq_of_lt; omega

theorem codeArr_at (I : IVec S50176 32) (x : S50176.Idx) (h : (I x).toNat < 50176) : codeArr I x = codeOf (I x) := by
  show IntOp.ori (IntOp.shli .host (quotArr I x) 8#32) (remArr I x) = _
  rw [quotArr_at I x h, remArr_at I x h, IntOp.shli, if_pos (by decide)]
  apply BitVec.eq_of_toNat_eq
  rw [codeOf_toNat _ h, IntOp.ori, BitVec.toNat_or]
  have e : ((I x / 224#32) <<< 8#32).toNat = ((I x).toNat / 224) <<< 8 := by
    rw [BitVec.shiftLeft_eq', BitVec.toNat_shiftLeft, BitVec.toNat_udiv]
    apply Nat.mod_eq_of_lt
    show ((I x).toNat / 224) <<< 8 < _
    rw [Nat.shiftLeft_eq]; omega
  rw [e, BitVec.toNat_umod, ← Nat.shiftLeft_add_eq_or_of_lt (by have := Nat.mod_lt (I x).toNat (show 0 < 224 by decide); show _ % 224 < _; omega),
    Nat.shiftLeft_eq]
  rfl

/-- The index's place in the list of indices (places past the end wrap). -/
def atI (n : Nat) : S50176.Idx := fun a => ⟨n % S50176.size a, Nat.mod_lt _ (by revert a; decide)⟩

/-- A packed word: two codes thirty-two positions' rows hold sixteen places apart. -/
theorem packArr_at (I : IVec S50176 32) (q l : Nat) (hq : q < 1568) (hl : l < 16) :
    packArr I (at1 (16 * q + l))
      = IntOp.ori (codeArr I (atI (32 * q + l))) (IntOp.shli .host (codeArr I (atI (32 * q + 16 + l))) 16#32) := by
  unfold packArr
  rw [shapeCast_apply _ _ _ (ValueIdx.ix2 ⟨q, hq⟩ ⟨l, hl⟩ : S1568x16.Idx)
    (by rw [Shape.rowMajor_val_two, Shape.rowMajor_val_one]
        show q * 16 + l = (16 * q + l) % 25088
        rw [Nat.mod_eq_of_lt (by omega)]; omega)]
  have half (b : Nat) (hb : b < 2) (h : S1568x2x16.Slices ![0, b, 0] S1568x1x16) :
      shapeCast S1568x16 (extractStridedSlice S1568x1x16 ![0, b, 0]
          (shapeCast S1568x2x16 (codeArr I) shapeCasts_S50176_S1568x2x16) h) shapeCasts_S1568x1x16_S1568x16
          (ValueIdx.ix2 ⟨q, hq⟩ ⟨l, hl⟩) = codeArr I (atI (32 * q + 16 * b + l)) := by
    rw [shapeCast_apply _ _ _ (fun a => match a with | ⟨0, _⟩ => ⟨q, hq⟩ | ⟨1, _⟩ => ⟨0, Nat.one_pos⟩ | ⟨2, _⟩ => ⟨l, hl⟩ : S1568x1x16.Idx)
      (by rw [Shape.rowMajor_val_two, Shape.rowMajor_val_three]
          show (q * 1 + 0) * 16 + l = q * 16 + l
          omega)]
    unfold extractStridedSlice
    refine shapeCast_apply _ _ _ (atI (32 * q + 16 * b + l)) ?_
    rw [Shape.rowMajor_val_one, Shape.rowMajor_val_three]
    show (32 * q + 16 * b + l) % 50176 = ((0 + q) * 2 + (b + 0)) * 16 + (0 + l)
    rw [Nat.mod_eq_of_lt (by omega)]; omega
  show IntOp.ori (shapeCast S1568x16 _ _ _) (IntOp.shli .host (shapeCast S1568x16 _ _ _) 16#32) = _
  rw [half 0 (by decide), half 1 (by decide), Nat.mul_zero, Nat.add_zero, Nat.mul_one]

/-- The two halves of a packed word are the codes it was packed from. -/
theorem loCode_pack (a b : BitVec 32) (ha : a.toNat < 65536) :
    loCode (IntOp.ori a (IntOp.shli .host b 16#32)) = a := by
  unfold loCode IntOp.andi IntOp.ori IntOp.shli
  rw [if_pos (by decide)]
  apply BitVec.eq_of_toNat_eq
  rw [BitVec.toNat_and, BitVec.toNat_or, BitVec.shiftLeft_eq', BitVec.toNat_shiftLeft, show (65535#32).toNat = 2 ^ 16 - 1 from rfl,
    Nat.and_two_pow_sub_one_eq_mod, show (16#32).toNat = 16 from rfl, Nat.or_mod_two_pow, Nat.shiftLeft_eq,
    Nat.mod_eq_of_lt ha, show b.toNat * 2 ^ 16 % 2 ^ 32 % 2 ^ 16 = 0 by omega, Nat.or_zero]

theorem hiCode_pack (a b : BitVec 32) (ha : a.toNat < 65536) (hb : b.toNat < 65536) :
    hiCode (IntOp.ori a (IntOp.shli .host b 16#32)) = b := by
  unfold hiCode IntOp.shrui IntOp.ori IntOp.shli
  rw [if_pos (by decide), if_pos (by decide)]
  apply BitVec.eq_of_toNat_eq
  rw [BitVec.ushiftRight_eq', BitVec.toNat_ushiftRight, BitVec.toNat_or, BitVec.shiftLeft_eq', BitVec.toNat_shiftLeft,
    show (16#32).toNat = 16 from rfl, Nat.shiftRight_or_distrib, Nat.shiftLeft_eq, Nat.mod_eq_of_lt (by omega),
    Nat.shiftRight_eq_div_pow, Nat.shiftRight_eq_div_pow, Nat.div_eq_of_lt (by omega), Nat.zero_or, Nat.mul_div_cancel _ (by decide)]

/-- Every index names an element of a plane. -/
def InRange (I : IVec S50176 32) : Prop := ∀ x, (I x).toNat < 50176

theorem codeOf_lt (w : BitVec 32) (h : w.toNat < 50176) : (codeOf w).toNat < 65536 := by
  rw [codeOf_toNat w h]; omega

theorem okCode_codeOf (w : BitVec 32) (h : w.toNat < 50176) :
    (IntOp.shrui .vector (codeOf w) 8#32).toNat = w.toNat / 224 ∧ (IntOp.andi (codeOf w) 255#32).toNat = w.toNat % 224 := by
  unfold IntOp.shrui IntOp.andi
  rw [if_pos (by decide), BitVec.ushiftRight_eq', BitVec.toNat_ushiftRight, BitVec.toNat_and, show (255#32).toNat = 2 ^ 8 - 1 from rfl,
    Nat.and_two_pow_sub_one_eq_mod, show (8#32).toNat = 8 from rfl, Nat.shiftRight_eq_div_pow, codeOf_toNat w h]
  omega

/-- The code at output position `(y, w)` is the code of index `224 * y + w`. -/
theorem codeAt_pack (I : IVec S50176 32) (hI : InRange I) (y w : Nat) (hy : y < 224) (hw : w < 224) :
    codeAt (packArr I) y w = codeOf (I (atI (224 * y + w))) := by
  unfold codeAt
  rw [show 112 * y + 16 * (w / 32) + w % 16 = 16 * (7 * y + w / 32) + w % 16 by omega,
    packArr_at I _ _ (by omega) (Nat.mod_lt _ (by decide)), codeArr_at _ _ (hI _), codeArr_at _ _ (hI _)]
  split
  · rw [loCode_pack _ _ (codeOf_lt _ (hI _))]
    congr 3; omega
  · rw [hiCode_pack _ _ (codeOf_lt _ (hI _)) (codeOf_lt _ (hI _))]
    congr 3; omega

/-- Indices in range give codes that name cells of the plane. -/
theorem okCodes_pack (I : IVec S50176 32) (hI : InRange I) : okCodes (packArr I) := by
  intro q
  have hq : q = at1 (16 * ((q 0).val / 16) + (q 0).val % 16) := by
    funext a
    match a with
    | ⟨0, _⟩ => exact Fin.ext (by
        show (q 0).val = (16 * ((q 0).val / 16) + (q 0).val % 16) % 25088
        have : (q 0).val < 25088 := (q 0).isLt
        omega)
  have h0 : (q 0).val < 25088 := (q 0).isLt
  rw [hq, packArr_at I _ _ (by omega) (Nat.mod_lt _ (by decide)), codeArr_at _ _ (hI _), codeArr_at _ _ (hI _),
    loCode_pack _ _ (codeOf_lt _ (hI _)), hiCode_pack _ _ (codeOf_lt _ (hI _)) (codeOf_lt _ (hI _))]
  have ok (w : BitVec 32) (h : w.toNat < 50176) : okCode (codeOf w) := by
    unfold okCode; rw [(okCode_codeOf w h).1, (okCode_codeOf w h).2]; omega
  exact ⟨ok _ (hI _), ok _ (hI _)⟩

/-- The gathered value at `(y, w)`: the element the index names, its quotient by 224 the line, its remainder the column. -/
theorem planeVal_pack {α : Type} (I : IVec S50176 32) (hI : InRange I) (R : S224x224.Idx → α) (y w : Nat) (hy : y < 224) (hw : w < 224)
    (z : S224x224.Idx) (hz : 224 * (z 0).val + (z 1).val = (I (atI (224 * y + w))).toNat) :
    planeVal (packArr I) R y w = R z := by
  unfold planeVal
  rw [codeAt_pack I hI y w hy hw]
  unfold pick
  congr 1
  have h := okCode_codeOf _ (hI (atI (224 * y + w)))
  have h1 : (z 1).val < 224 := (z 1).isLt
  have h0 : (z 0).val < 224 := (z 0).isLt
  funext a
  match a with
  | ⟨0, _⟩ => exact Fin.ext (by
      show (IntOp.shrui .vector (codeOf (I (atI (224 * y + w)))) 8#32).toNat % 224 = (z 0).val
      rw [h.1]; omega)
  | ⟨1, _⟩ => exact Fin.ext (by
      show (IntOp.andi (codeOf (I (atI (224 * y + w)))) 255#32).toNat % 224 = (z 1).val
      rw [h.2]; omega)

end Cert.Proof.Gather
end
-- ==== Proof.Launch.lean ====
/-
  The launch. The call hands each of the thirty-two tiles a read share of the planes and of the code list, and the lines
  of its own forty-eight planes of the result; each tile's task is `tile_body`, and the tiles' lines together are the
  whole result. Around the call the TensorCore runs the host operations. The conclusion, `run_main`: every execution
  ends with the arguments as they were, every semaphore at zero and the result the gathered planes.
-/
module

public import proofs.«01_k».proof.Proof.Body
public import proofs.«01_k».proof.Proof.Codes
public import Idealize.ShloMosaic.Lib.SparseCore.Quiescent

@[expose] public section

noncomputable section

namespace Cert.Proof.Gather

open Cert.KernelIdeal Cert.KernelIdeal.Gen Cert.KernelIdeal.Facts

open Idealize.ShloMosaic
open Idealize.ShloMosaic.SparseCore (S V T)
open Idealize.ShloMosaic.SparseCore.Cfg (HIx)
open Idealize.ShloMosaic.StableHlo (after held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The arrays dealt to the tiles -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A SparseCore's read share of an array, and a tile's part of it. -/
def coreShare (c : Fin 2) : PosShare TreeShare := Transfers.dealOf fullShare Finset.univ c
def tileShare (c : Fin 2) (s : Fin 16) : PosShare TreeShare := Transfers.dealOf (coreShare c) Finset.univ s

/-- The lines of the result a tile writes, and those a SparseCore's tiles write. -/
def tileSet (c : Fin 2) (s : Fin 16) : Finset S1536x224x224.Idx :=
  lineSet (224 * base (coordsV c s)) (224 * (base (coordsV c s) + 48))
def coreSet (c : Fin 2) : Finset S1536x224x224.Idx := Finset.univ.biUnion (tileSet c)

theorem mem_tileSet {c : Fin 2} {s : Fin 16} {x : S1536x224x224.Idx} :
    x ∈ tileSet c s ↔ (x 0).val / 48 = 2 * s.val + c.val := by
  have h1 : (x 1).val < 224 := (x 1).isLt
  unfold tileSet lineSet
  rw [Finset.mem_filter, show base (coordsV c s) = 96 * s.val + 48 * c.val from rfl]
  simp only [Finset.mem_univ, true_and]
  have := c.isLt
  omega

theorem mem_coreSet {c : Fin 2} {x : S1536x224x224.Idx} : x ∈ coreSet c ↔ (x 0).val / 48 % 2 = c.val := by
  have h0 : (x 0).val < 1536 := (x 0).isLt
  have hc := c.isLt
  unfold coreSet
  simp only [Finset.mem_biUnion, Finset.mem_univ, true_and, mem_tileSet]
  constructor
  · rintro ⟨s, h⟩; omega
  · intro h; exact ⟨⟨(x 0).val / 48 / 2, by omega⟩, by show _ = 2 * ((x 0).val / 48 / 2) + _; omega⟩

omit [FloatOps F] in
/-- An array whole, dealt in two stages of disjoint sets. -/
theorem whole_deal {ℓ : Loc nD τ sig} (f : Buf (Elt F) ℓ) (A : Fin 2 → Finset (Idx ℓ)) (B : Fin 2 → Fin 16 → Finset (Idx ℓ))
    (hU : ∀ x, ∃ c, x ∈ A c) (hA : ∀ x c c', x ∈ A c → x ∈ A c' → c = c')
    (hB : ∀ c, A c = Finset.univ.biUnion (B c)) (hBd : ∀ x c s s', x ∈ B c s → x ∈ B c s' → s = s') :
    (ℓ ↦{fullShare} f : sProp 𝕄)
      = bigSep Finset.univ fun c : Fin 2 => bigSep Finset.univ fun s : Fin 16 => ℓ ↦[B c s]{fullShare} f := by
  rw [show (Finset.univ : Finset (Idx ℓ)) = Finset.univ.biUnion A from by
      ext x
      simp only [Finset.mem_biUnion, Finset.mem_univ, true_and, true_iff]
      exact hU x,
    pointsTo_biUnion Finset.univ A fun c _ c' _ h => Finset.disjoint_left.mpr fun x hx hx' => h (hA x c c' hx hx')]
  refine bigSep_congr fun c _ => ?_
  rw [hB c, pointsTo_biUnion Finset.univ (B c) fun s _ s' _ h => Finset.disjoint_left.mpr fun x hx hx' => h (hBd x c s s' hx hx')]

theorem out_deal (d : Dev nD) (g : S1536x224x224.Idx → F .f32) :
    (oLoc d ↦{fullShare} g : sProp 𝕄)
      = bigSep Finset.univ fun c : Fin 2 => bigSep Finset.univ fun s : Fin 16 => oLoc d ↦[tileSet c s]{fullShare} g :=
  whole_deal (ℓ := oLoc d) g coreSet tileSet
    (fun x => ⟨⟨_, Nat.mod_lt ((x (0 : Fin 3)).val / 48) Nat.two_pos⟩, mem_coreSet.mpr rfl⟩)
    (fun x c c' h h' => Fin.ext ((mem_coreSet.mp h).symm.trans (mem_coreSet.mp h')))
    (fun _ => rfl)
    (fun x c s s' h h' => Fin.ext (by have := mem_tileSet.mp h; have := mem_tileSet.mp h'; omega))

theorem share_deal {ℓ : Loc nD τ sig} (f : Buf (Elt F) ℓ) :
    (ℓ ↦{fullShare} f : sProp 𝕄)
      = bigSep Finset.univ fun c : Fin 2 => bigSep Finset.univ fun s : Fin 16 => ℓ ↦{tileShare c s} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

/-- What tile `s` of SparseCore `c` is handed, the result's lines at contents `g`. -/
def tileIn (d : Dev nD) (C : S25088.Idx → BitVec 32) (X g : S1536x224x224.Idx → F .f32) (c : Fin 2) (s : Fin 16) : sProp 𝕄 :=
  taskIn d (coordsV c s) (tileShare c s) C X g

/-- What a SparseCore's tiles are handed together. -/
def coreIn (d : Dev nD) (C : S25088.Idx → BitVec 32) (X g : S1536x224x224.Idx → F .f32) (c : Fin 2) : sProp 𝕄 :=
  bigSep Finset.univ fun s : Fin 16 => tileIn d C X g c s

/-- The three arrays whole are what all the tiles are handed. -/
theorem arrays_deal (d : Dev nD) (C : S25088.Idx → BitVec 32) (X g : S1536x224x224.Idx → F .f32) :
    (iprop((cLoc d ↦{fullShare} C) ∗ (xLoc d ↦{fullShare} X) ∗ oLoc d ↦{fullShare} g) : sProp 𝕄)
      = bigSep Finset.univ fun c : Fin 2 => coreIn d C X g c := by
  rw [share_deal (ℓ := cLoc d) C, share_deal (ℓ := xLoc d) X, out_deal d g, ← bigSep_sep', ← bigSep_sep']
  refine bigSep_congr fun c _ => ?_
  rw [← bigSep_sep', ← bigSep_sep']
  rfl

instance tileIn_storable (d : Dev nD) (C : S25088.Idx → BitVec 32) (X g : S1536x224x224.Idx → F .f32) (c : Fin 2) (s : Fin 16) :
    BI.Storable (upEmb : UEmb _ 𝕄) (tileIn d C X g c s) := by
  unfold tileIn taskIn; infer_instance

instance coreIn_storable (d : Dev nD) (C : S25088.Idx → BitVec 32) (X g : S1536x224x224.Idx → F .f32) (c : Fin 2) :
    BI.Storable (upEmb : UEmb _ 𝕄) (coreIn d C X g c) := by
  unfold coreIn; infer_instance

/-! ## What the launch memory says -/

variable (m : (ℓ : Loc nD τ sig) → Buf (Elt F) ℓ) (ρ : Dev nD → PrngReg)

abbrev aLoc (d : Dev nD) : Loc nD τ sig := (SparseCore.T d).loc main_arg0
abbrev iLoc (d : Dev nD) : Loc nD τ sig := (SparseCore.T d).loc main_arg1
abbrev rLoc (d : Dev nD) : Loc nD τ sig := (SparseCore.T d).loc main_v16

/-- The indices, the planes and the result's contents as the call finds them. -/
def idxOf (d : Dev nD) : IVec S50176 32 := m (iLoc d)
def codesOf (d : Dev nD) : S25088.Idx → BitVec 32 := packArr (idxOf m d)
def planesOf (d : Dev nD) : S1536x224x224.Idx → F .f32 :=
  shapeCast S1536x224x224 (m (aLoc d) : Arr F S8x192x224x224 .f32) shapeCasts_S8x192x224x224_S1536x224x224
def outOf (d : Dev nD) : S1536x224x224.Idx → F .f32 := m (oLoc d)

/-- What the program returns. -/
def resOf (d : Dev nD) : S8x192x224x224.Idx → F .f32 :=
  shapeCast S8x192x224x224 (outVal (codesOf m d) (planesOf m d)) shapeCasts_S1536x224x224_S8x192x224x224

/-- The indices of every device are in range. -/
def PreOK : Prop := ∀ d, InRange (idxOf m d)

/-- What the handshakes carry: to a SparseCore its tiles' shares, to a tile its own, and the same back, the lines written. -/
def P : (K (F := F)).Pay (nD := nD) (Val := Elt F) (Name := ℕ) (U := UU) where
  st := fun q d c => match q with | 0 => coreIn d (codesOf m d) (planesOf m d) (outOf m d) c
  dn := fun q d c => match q with | 0 => coreIn d (codesOf m d) (planesOf m d) (outVal (codesOf m d) (planesOf m d)) c
  go := fun q d c s => match q with | 0 => tileIn d (codesOf m d) (planesOf m d) (outOf m d) c s
  td := fun q d c s => match q with | 0 => tileIn d (codesOf m d) (planesOf m d) (outVal (codesOf m d) (planesOf m d)) c s
  x := fun _ _ => iprop(emp)

instance P_storable : (P (F := F) m).IsStorable where
  st q d c := match q with | 0 => coreIn_storable d _ _ _ c
  dn q d c := match q with | 0 => coreIn_storable d _ _ _ c
  go q d c s := match q with | 0 => tileIn_storable d _ _ _ c s
  td q d c s := match q with | 0 => tileIn_storable d _ _ _ c s

/-! ## The obligations of the call -/

theorem defs₀_vector (c : Fin τ.nSC) (s : Fin τ.nSub) :
    defs₀ (F := F) (.scVector c s) 0 ()
      = SparseCore.onTile hcore0 hsub0 (fun c s => cc0__jumble_body (coordsV c s)
          xM (Memref.isWhole_whole _) cM (Memref.isWhole_whole _) oM (Memref.isWhole_whole _)
          idxM (Memref.isWhole_whole _) rowM (Memref.isWhole_whole _) outM (Memref.isWhole_whole _) cc0_scratch3 cc0_scratch4 cc0_scoped0) ⟨⟩ c s := rfl

omit [FloatOps F] in
theorem waits_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (tileShare c i) (codesOf m d) (okCodes_pack _ (hpre d)) (planesOf m d) (outOf m d) O W hO).trans
    (wp_mono frame _ _ fun _ => waits_widen)

theorem vecSplit : (K (F := F)).VecSplit' (P m) 0 := by
  intro d c
  show coreIn d (codesOf m d) (planesOf m d) (outOf m d) c ⊢ |={Set.univ}=> iprop(
      (bigSep (Finset.univ : Finset (Fin 16)) fun s => tileIn d (codesOf m d) (planesOf m d) (outOf m d) c s)
      ∗ ((bigSep (Finset.univ : Finset (Fin 16)) fun s => tileIn d (codesOf m d) (planesOf m d) (outVal (codesOf m d) (planesOf m d)) c s)
          -∗ coreIn d (codesOf m d) (planesOf m d) (outVal (codesOf m d) (planesOf m d)) c))
  unfold coreIn
  iintro H; imodintro
  isplitl [H]; · iexact H
  iintro H; iexact H

/-! ## The launch's first holdings -/

/-- The handshakes' rounds, and nothing of the kernel's own. -/
def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem launch_own : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The TensorCore's program -/

/-- A TensorCore array's reference, in the device's numbering. -/
abbrev arr (r : Ref sig .tc) : DevRef τ sig := Proc.devRef .tc r

theorem arr_mem (r : Ref sig .tc) (h : ¬ r.isScoped) : arr r ∈ ucRefs τ sig :=
  Finset.mem_filter.mpr ⟨Finset.mem_map.mpr ⟨r, Finset.mem_univ _, rfl⟩, h⟩

/-- The contents at the launch, at the call, after it, and at the end. -/
abbrev V₀ (d : Dev nD) : Valuation τ sig (Elt F) := fun b => m (d, b)
abbrev V₁ (d : Dev nD) : Valuation τ sig (Elt F) := after hostOps (V₀ m d)
abbrev V₂ (d : Dev nD) : Valuation τ sig (Elt F) := Function.update (V₁ m d) (arr main_v15) (outVal (codesOf m d) (planesOf m d))
abbrev V₃ (d : Dev nD) : Valuation τ sig (Elt F) := (lastOp (F := F)).result (V₂ m d)

/-- The arrays the call takes. -/
abbrev callRefs : Finset (DevRef τ sig) := {arr main_v14, arr main_v0, arr main_v15}

/-- The arrays the claims speak of. -/
abbrev endRefs : Finset (DevRef τ sig) := {arr main_arg0, arr main_arg1, arr main_v16}

theorem callRefs_sub : callRefs ⊆ ucRefs τ sig := by
  intro b hb
  simp only [callRefs, Finset.mem_insert, Finset.mem_singleton] at hb
  rcases hb with rfl | rfl | rfl <;> exact arr_mem _ (by decide)

theorem endRefs_sub : endRefs ⊆ ucRefs τ sig := by
  intro b hb
  simp only [endRefs, Finset.mem_insert, Finset.mem_singleton] at hb
  rcases hb with rfl | rfl | rfl <;> exact arr_mem _ (by decide)

omit [FloatOps F] in
theorem held_three (d : Dev nD) (a b c : Ref sig .tc) (hab : arr a ∉ ({arr b, arr c} : Finset (DevRef τ sig))) (hbc : arr b ∉ ({arr c} : Finset (DevRef τ sig)))
    (W : Valuation τ sig (Elt F)) :
    (held (T d) {arr a, arr b, arr c} W : sProp 𝕄)
      = iprop(((SparseCore.T d).loc a ↦{fullShare} W (arr a)) ∗ ((SparseCore.T d).loc b ↦{fullShare} W (arr b)) ∗ (SparseCore.T d).loc c ↦{fullShare} W (arr c)) := by
  unfold held
  rw [SparseCore.bigSep_insert' hab, SparseCore.bigSep_insert' hbc, bigSep_singleton]

theorem V₁_codes (d : Dev nD) : V₁ m d (arr main_v14) = codesOf m d := codes_read _
theorem V₁_planes (d : Dev nD) : V₁ m d (arr main_v0) = planesOf m d := planes_read _
theorem V₁_out (d : Dev nD) : V₁ m d (arr main_v15) = outOf m d := o_read _

theorem V₂_ne (d : Dev nD) {b : DevRef τ sig} (h : b ≠ arr main_v15) : V₂ m d b = V₁ m d b := Function.update_of_ne h _ _
theorem V₂_out (d : Dev nD) : V₂ m d (arr main_v15) = outVal (codesOf m d) (planesOf m d) := Function.update_self _ _ _

theorem V₃_ne (d : Dev nD) {b : DevRef τ sig} (h : b ∉ ({arr main_v16} : Finset (DevRef τ sig))) : V₃ m d b = V₂ m d b :=
  (lastOp (F := F)).result_of_not_mem _ h
theorem V₃_arg0 (d : Dev nD) : V₃ m d (arr main_arg0) = m (aLoc d) := by
  rw [V₃_ne m d (by decide), V₂_ne m d (by decide)]; exact x_read _
theorem V₃_arg1 (d : Dev nD) : V₃ m d (arr main_arg1) = m (iLoc d) := by
  rw [V₃_ne m d (by decide), V₂_ne m d (by decide)]; exact i_read _
theorem V₃_res (d : Dev nD) : V₃ m d (arr main_v16) = resOf m d := by
  unfold resOf
  rw [← V₂_out m d]
  show (lastOp (F := F)).result (V₂ m d) (arr main_v16) = _
  unfold lastOp
  generalize V₂ m d = V
  after_reads_simp
  rfl

/-- The call takes the three arrays as the host operations left them … -/
theorem call_in (d : Dev nD) :
    (held (T d) callRefs (V₁ m d) : sProp 𝕄)
      = bigSep Finset.univ fun c : Fin ((K (F := F)).nCore 0) => (P m).st 0 d c := by
  rw [held_three d _ _ _ (by decide) (by decide), V₁_codes, V₁_planes, V₁_out]
  exact arrays_deal d _ _ _

/-- … and gives them back, the result gathered. -/
theorem call_out (d : Dev nD) :
    (bigSep Finset.univ fun c : Fin ((K (F := F)).nCore 0) => (P m).dn 0 d c) = (held (T d) callRefs (V₂ m d) : sProp 𝕄) := by
  rw [held_three d _ _ _ (by decide) (by decide), V₂_ne m d (by decide), V₂_ne m d (by decide), V₂_out, V₁_codes, V₁_planes]
  exact (arrays_deal d _ _ _).symm

/-- The rest of the arrays stays as it was. -/
theorem rest_eq (d : Dev nD) :
    (held (T d) (ucRefs τ sig \ callRefs) (V₁ m d) : sProp 𝕄) = held (T d) (ucRefs τ sig \ callRefs) (V₂ m d) :=
  StableHlo.held_congr _ fun b hb => (V₂_ne m d fun h => (Finset.mem_sdiff.mp hb).2 (by rw [h]; decide)).symm

theorem hostOps_bufs : ∀ op ∈ hostOps (F := F), op.bufs ⊆ ucRefs τ sig := by
  have : (hostOps (F := F)).Forall fun op => op.bufs ⊆ StableHlo.tcRefs τ sig := by
    unfold hostOps headOps midOps packOps quotOps remOps
    simp only [List.cons_append, List.nil_append]
    simp
  exact fun op h => Pipeline.sub_ucRefs op (List.forall_iff_forall_mem.mp this op h)

theorem hostOps_fresh : ∀ op ∈ hostOps (F := F), op.fresh = ∅ := by
  have : (hostOps (F := F)).Forall fun op => op.fresh = ∅ := by
    unfold hostOps headOps midOps packOps quotOps remOps
    simp only [List.cons_append, List.nil_append]
    repeat' constructor
  exact fun op h => List.forall_iff_forall_mem.mp this op h

theorem lastOp_bufs : (lastOp (F := F)).bufs ⊆ ucRefs τ sig :=
  Pipeline.sub_ucRefs _ (by unfold lastOp; simp)

/-- What the program leaves the claims: the arguments as they were, and the result. -/
abbrev FIN (d : Dev nD) : sProp 𝕄 :=
  iprop((aLoc d ↦{fullShare} m (aLoc d)) ∗ (iLoc d ↦{fullShare} m (iLoc d)) ∗ rLoc d ↦{fullShare} (resOf m d : Buf (Elt F) (rLoc d)))

theorem end_eq (d : Dev nD) :
    (held (T d) (ucRefs τ sig) (V₃ m d) : sProp 𝕄) = iprop(FIN m d ∗ held (T d) (ucRefs τ sig \ endRefs) (V₃ m d)) := by
  rw [StableHlo.held_sub_split _ endRefs_sub, held_three d _ _ _ (by decide) (by decide), V₃_arg0, V₃_arg1, V₃_res]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (V₀ m d)
      from Pipeline.unscopedBufs_held (Ix := HIx 1) (Name := ℕ) (U := UU) (Lvl := ℕ) d (V₀ m d), main_eq]
  iintro ⟨#Hctx, Hst, ⟨Hb, Hheld, Hts, -⟩, -⟩
  iapply (StableHlo.wp_seq 𝒱 none Set.univ d (ucRefs τ sig) _ hostOps hostOps_bufs hostOps_fresh (V₀ m d)) $$ [Hb Hheld]
  · isplitl [Hb]; · iexact Hb
    iexact Hheld
  iintro ⟨Hb, Hheld⟩
  ihave Hh := (Entails.of_eq (StableHlo.held_sub_split (T d) callRefs_sub (V₁ m d))) $$ Hheld
  icases Hh with ⟨Hcall, Hrest⟩
  rw [wp_bind]
  iapply ((K (F := F)).wp_run (D (F := F)) 𝒱 (EH := EH) (P := P m) κ d 0) $$ [Hst Hcall Hrest Hb Hts]
  isplitr; · iexact Hctx
  isplitl [Hst]; · iexact Hst
  isplitl [Hcall]
  · iapply (Entails.of_eq (call_in m d)); iexact Hcall
  iintro ⟨Hst, Hdn⟩
  ihave Hcall := (Entails.of_eq (call_out m d)) $$ Hdn
  ihave Hrest := (Entails.of_eq (rest_eq m d)) $$ Hrest
  iapply (StableHlo.wp_hlo_within 𝒱 (T d) none Set.univ (op := lastOp) (S := ucRefs τ sig) lastOp_bufs (V := V₂ m d)) $$ [Hb Hcall Hrest]
  · isplitl [Hb]; · iexact Hb
    iapply (Entails.of_eq (StableHlo.held_sub_split (T d) callRefs_sub (V₂ m d)).symm)
    isplitl [Hcall]; · iexact Hcall
    iexact Hrest
  iintro ⟨Hb, Hheld⟩
  ihave Hh := (Entails.of_eq (end_eq m d)) $$ Hheld
  icases Hh with ⟨Hfin, -⟩
  rw [wp_ret]; imodintro
  isplitl [Hst]; · iexact Hst
  isplitl [Hfin]; · iexact Hfin
  isplitl [Hb] <;> iassumption

/-! ## The run -/

def fq (d : Dev nD) (s' : Phys nD τ sig (Elt F)) : Prop :=
  s'.mem.mem (aLoc d) = m (aLoc d) ∧ s'.mem.mem (iLoc d) = m (iLoc d) ∧ s'.mem.mem (rLoc d) = (resOf m d : Buf (Elt F) (rLoc d))

theorem hfin (d : Dev nD) (s' : Phys nD τ sig (Elt F)) : iprop(FIN m d ∗ SI s') ⊢ (⌜fq m d s'⌝ : sProp 𝕄) := by
  iintro ⟨⟨Ha, Hi, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (aLoc c) = m (aLoc c) ∧ r.2.mem (iLoc c) = m (iLoc c) ∧ r.2.mem (rLoc c) = (resOf m c : Buf (Elt F) (rLoc c)))
    ∧ r.2.sem = fun _ => 0

/-- From indices in range, every execution ends with the arguments as they were, the gathered result and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (launch_own m)) (hmain m ρ) (fq m) (hfin m) (QC m) (fun _ h hz => ⟨h, hz⟩)

end Cert.Proof.Gather

end
-- ==== Proof.Plain.lean ====
/-
  The reference's value. The reference wraps negative indices, masks the positions whose index is out of range and
  gathers along the flattened planes; on indices in range nothing is wrapped or masked, and element `(b, c, y, w)` of
  its result is the plane `(b, c)` at the position its index names. So is the kernel's, whose codes name the same
  position by line and column: the two results are one array. The precondition is read here too.
-/
module

public import proofs.«01_k».proof.Proof.Codes
public import proofs.«01_k».proof.Proof.Gen.Pre_idx_in_range
public import proofs.«01_k».proof.Proof.Gen.ReferenceIdeal.Run
public import Idealize.ShloMosaic.Lib.ReduceAll

@[expose] public section

noncomputable section

namespace Cert.Proof.Gather

open Idealize.ShloMosaic

/-! ## Words in range -/

theorem andi_bools (p q : Bool) : IntOp.andi (BitVec.ofBool p) (BitVec.ofBool q) = BitVec.ofBool (p && q) := by
  cases p <;> cases q <;> decide

theorem bool_one (p : Bool) : (BitVec.ofBool p = 1#1) ↔ p = true := by cases p <;> decide

/-- A word the two signed comparisons pass is its own value, below 50176 … -/
theorem lt_of_compares (v : BitVec 32) (e : IntOp.andi (IntOp.cmpi .sge v 0#32) (IntOp.cmpi .slt v 50176#32) = 1#1) : v.toNat < 50176 := by
  simp only [IntOp.cmpi, andi_bools, bool_one, Bool.and_eq_true, BitVec.sle_eq_decide, BitVec.slt_eq_decide, decide_eq_true_eq,
    BitVec.toInt_eq_toNat_cond, BitVec.toNat_ofNat, Nat.reducePow, Nat.reduceMod] at e
  omega

/-- … such a word is not negative, and passes the reference's own two comparisons. -/
theorem not_negative (v : BitVec 32) (h : v.toNat < 50176) : IntOp.cmpi .slt v 0#32 = 0#1 := by
  unfold IntOp.cmpi
  rw [show v.slt 0#32 = false from by
    rw [BitVec.slt_eq_decide, BitVec.toInt_eq_toNat_cond, BitVec.toInt_eq_toNat_cond]
    simp only [BitVec.toNat_ofNat, Nat.reducePow, Nat.reduceMod, decide_eq_false_iff_not]
    omega]
  rfl

theorem passes (v : BitVec 32) (h : v.toNat < 50176) : IntOp.andi (IntOp.cmpi .sge v 0#32) (IntOp.cmpi .sle v 50175#32) = 1#1 := by
  simp only [IntOp.cmpi, andi_bools, bool_one, Bool.and_eq_true, BitVec.sle_eq_decide, decide_eq_true_eq,
    BitVec.toInt_eq_toNat_cond, BitVec.toNat_ofNat, Nat.reducePow, Nat.reduceMod]
  omega

theorem signed_value (v : BitVec 32) (h : v.toNat < 50176) : v.toInt.toNat = v.toNat := by
  rw [BitVec.toInt_eq_toNat_cond]; split <;> omega

/-- The precondition says that every index is in range. -/
theorem inRange_of_pre {F : FTy → Type} [FloatOps F] (x : Arr F Cert.KernelIdeal.S8x192x224x224 .f32) (I : IVec Cert.KernelIdeal.S50176 32)
    (h : Cert.Pre_idx_in_range.fn (F := F) x I = fun _ => 1#1) : InRange I := by
  intro i
  have hs : Subsingleton Cert.Pre_idx_in_range.S_.Idx := ⟨fun a b => funext fun k => k.elim0⟩
  have e := congrFun h (Shape.Idx.first Cert.Pre_idx_in_range.Facts.h_S_)
  unfold Cert.Pre_idx_in_range.fn at e
  have e' := Host.reduce_andi_all _ _ _ _ _ e i
  exact lt_of_compares _ e'

/-! ## The reference's operations on indices in range -/

open Cert.ReferenceIdeal Cert.ReferenceIdeal.Gen

/-- The start indices the reference gathers at: negative indices wrapped, as a column. -/
def starts (I : IVec S50176 32) : IVec S50176x1 32 :=
  broadcastInDim S50176x1 ![0] bcast_S50176_S50176x1_0
    (select (cmpi .slt I (broadcastInDim S50176 ![] bcast_S_S50176 (constantI S_ 32 0#32)))
      (addi I (broadcastInDim S50176 ![] bcast_S_S50176 (constantI S_ 32 50176#32))) I)

/-- Where the reference keeps what it gathered. -/
def keeps (I : IVec S50176 32) : IVec S50176 1 :=
  Host.reduce IntOp.andi
    (andi (cmpi .sge (starts I) (broadcastInDim S50176x1 ![] bcast_S_S50176x1 (constantI S_ 32 0#32)))
      (cmpi .sle (starts I)
        (broadcastInDim S50176x1 ![0, 1] bcast_S1x1_S50176x1_0_1 (broadcastInDim S1x1 ![1] bcast_S1_S1x1_1 (constantI S1 32 50175#32)))))
    (constantI S_ 1 1#1) reducesTo_S50176x1_S50176_d1 h_S_

/-- What the reference returns, as computed. -/
def plain {F : FTy → Type} [FloatOps F] (x : Arr F S8x192x224x224 .f32) (I : IVec S50176 32) : Arr F S8x192x224x224 .f32 :=
  shapeCast S8x192x224x224
    (select (broadcastInDim S8x192x50176 ![2] bcast_S50176_S8x192x50176_2 (keeps I))
      (Host.gather gather_S8x192x50176_S50176x1_S8x192x50176_01_2_n_n_2_1_81921
        (shapeCast S8x192x50176 x shapeCasts_S8x192x224x224_S8x192x50176) (starts I))
      (broadcastInDim S8x192x50176 ![] bcast_S_S8x192x50176 (constant S_ .f32 0x7FC00000#32)))
    shapeCasts_S8x192x50176_S8x192x224x224

theorem starts_at (I : IVec S50176 32) (hI : InRange I) (j : S50176x1.Idx) : starts I j = I (atI (j 0).val) := by
  unfold starts
  rw [broadcastInDim_apply ![0] _ _ j (atI (j 0).val) (fun a => by
    match a with
    | ⟨0, _⟩ => exact Nat.mod_eq_of_lt (j 0).isLt)]
  show Scalar.select (IntOp.cmpi .slt (I _) 0#32) _ _ = _
  rw [not_negative _ (hI _)]; rfl

theorem keeps_at (I : IVec S50176 32) (hI : InRange I) (k : S50176.Idx) : keeps I k = 1#1 :=
  Host.reduce_andi_one _ _ _ _ k rfl fun i => by
    show IntOp.andi (IntOp.cmpi .sge (starts I i) 0#32) (IntOp.cmpi .sle (starts I i) 50175#32) = 1#1
    rw [starts_at I hI]; exact passes _ (hI _)

/-- Element `(b, c, k)` of the flattened planes (coordinates past the edge wrap). -/
def flatAt (b c k : Nat) : S8x192x50176.Idx :=
  fun a => ⟨(![b, c, k] : Fin 3 → Nat) a % S8x192x50176.size a, Nat.mod_lt _ (by revert a; decide)⟩

/-- Element `(b, c, y, w)` of the planes (coordinates past the edge wrap). -/
def fullAt (b c y w : Nat) : S8x192x224x224.Idx :=
  fun a => ⟨(![b, c, y, w] : Fin 4 → Nat) a % S8x192x224x224.size a, Nat.mod_lt _ (by revert a; decide)⟩

/-- The gather takes each position from the one its start index names, in the same plane. -/
theorem gather_at {α : Type} (x : S8x192x50176.Idx → α) (s : IVec S50176x1 32) (hs : ∀ i, (s i).toNat < 50176) (j : S8x192x50176.Idx) (i : S50176x1.Idx)
    (hi : (i 0).val = (j 2).val) :
    Host.gather gather_S8x192x50176_S50176x1_S8x192x50176_01_2_n_n_2_1_81921 x s j = x (flatAt (j 0).val (j 1).val (s i).toNat) := by
  unfold Host.gather
  refine congrArg x (funext fun a => Fin.ext ?_)
  show GatherDims.start _ j s a + GatherDims.batchCoord _ j a + GatherDims.offCoord _ j a = _
  rw [GatherDims.batchCoord_eq_zero _ _ _ List.not_mem_nil, Nat.add_zero]
  match a with
  | ⟨0, _⟩ => exact (Nat.zero_add _).trans (Nat.mod_eq_of_lt (j 0).isLt).symm
  | ⟨1, _⟩ => exact (Nat.zero_add _).trans (Nat.mod_eq_of_lt (j 1).isLt).symm
  | ⟨2, _⟩ =>
    rw [GatherDims.offCoord_eq_zero _ _ _ fun h => ((GatherDims.mem_sKept _ _).mp h).1 (List.mem_singleton.mpr rfl), Nat.add_zero]
    unfold GatherDims.start
    rw [dif_pos (show (⟨2, by decide⟩ : Fin S8x192x50176.rank) ∈ gather_S8x192x50176_S50176x1_S8x192x50176_01_2_n_n_2_1_81921.startIndexMap from
      List.mem_singleton.mpr rfl)]
    have hsi : GatherDims.siIdx gather_S8x192x50176_S50176x1_S8x192x50176_01_2_n_n_2_1_81921 j
        ⟨List.idxOf (2 : Fin 3) [2], List.idxOf_lt_length_iff.2 (List.mem_singleton.mpr rfl)⟩ = i := by
      funext b; refine Fin.ext ?_
      match b with
      | ⟨0, _⟩ => exact hi.symm
      | ⟨1, _⟩ => exact (Nat.lt_one_iff.mp (i 1).isLt).symm
    have := hs i
    refine (congrArg (fun z => min (s z).toInt.toNat (50176 - 1)) hsi).trans ?_
    show min (s i).toInt.toNat (50176 - 1) = (s i).toNat % 50176
    rw [signed_value _ this]; omega

/-- The reference's result at a position: the plane at the position its index names. -/
theorem plain_at {F : FTy → Type} [FloatOps F] (x : Arr F S8x192x224x224 .f32) (I : IVec S50176 32) (hI : InRange I) (j : S8x192x224x224.Idx)
    (n : Nat) (hn : n = (I (atI (224 * (j 2).val + (j 3).val))).toNat) :
    plain x I j = x (fullAt (j 0).val (j 1).val (n / 224) (n % 224)) := by
  have h0 : (j 0).val < 8 := (j 0).isLt
  have h1 : (j 1).val < 192 := (j 1).isLt
  have h2 : (j 2).val < 224 := (j 2).isLt
  have h3 : (j 3).val < 224 := (j 3).isLt
  have hlt : n < 50176 := hn ▸ hI _
  unfold plain
  rw [shapeCast_apply _ _ j (flatAt (j 0).val (j 1).val (224 * (j 2).val + (j 3).val)) (by
    rw [Shape.rowMajor_val_three, Shape.rowMajor_val_four]
    show ((j 0).val % 8 * 192 + (j 1).val % 192) * 50176 + (224 * (j 2).val + (j 3).val) % 50176
      = (((j 0).val * 192 + (j 1).val) * 224 + (j 2).val) * 224 + (j 3).val
    omega)]
  show Scalar.select (broadcastInDim S8x192x50176 ![2] bcast_S50176_S8x192x50176_2 (keeps I) _) _ _ = _
  rw [broadcastInDim_apply ![2] _ (keeps I) _ (atI (224 * (j 2).val + (j 3).val)) (fun a => by
    match a with
    | ⟨0, _⟩ => rfl), keeps_at I hI, ValueIdx.select_one]
  rw [gather_at _ (starts I) (fun i => by rw [starts_at I hI]; exact hI _) _
    (fun a => ⟨(![224 * (j 2).val + (j 3).val, 0] : Fin 2 → Nat) a % S50176x1.size a, Nat.mod_lt _ (by revert a; decide)⟩) rfl,
    starts_at I hI]
  refine shapeCast_apply _ _ _ _ ?_
  rw [Shape.rowMajor_val_three, Shape.rowMajor_val_four]
  show (((j 0).val % 8 * 192 + (j 1).val % 192) * 224 + n / 224 % 224) * 224 + n % 224 % 224
    = ((j 0).val % 8 % 8 * 192 + (j 1).val % 192 % 192) * 50176 + (I (atI ((224 * (j 2).val + (j 3).val) % 50176))).toNat % 50176
  rw [show (224 * (j 2).val + (j 3).val) % 50176 = 224 * (j 2).val + (j 3).val by omega, ← hn]
  omega

/-- The kernel's result is the reference's. -/
theorem result_eq {F : FTy → Type} [FloatOps F] (x : Arr F S8x192x224x224 .f32) (I : IVec S50176 32) (hI : InRange I) :
    (shapeCast Cert.KernelIdeal.S8x192x224x224
        (outVal (packArr I) (shapeCast Cert.KernelIdeal.S1536x224x224 x Cert.KernelIdeal.Facts₀.shapeCasts_S8x192x224x224_S1536x224x224))
        Cert.KernelIdeal.Facts₀.shapeCasts_S1536x224x224_S8x192x224x224 : Arr F S8x192x224x224 .f32)
      = plain x I := by
  funext j
  have h0 : (j 0).val < 8 := (j 0).isLt
  have h1 : (j 1).val < 192 := (j 1).isLt
  have h2 : (j 2).val < 224 := (j 2).isLt
  have h3 : (j 3).val < 224 := (j 3).isLt
  obtain ⟨n, hn⟩ : ∃ n, n = (I (atI (224 * (j 2).val + (j 3).val))).toNat := ⟨_, rfl⟩
  have hlt : n < 50176 := hn ▸ hI _
  rw [plain_at x I hI j n hn,
    shapeCast_apply _ _ j (at3 (192 * (j 0).val + (j 1).val) (j 2).val (j 3).val) (by
      rw [Shape.rowMajor_val_three, Shape.rowMajor_val_four]
      show ((192 * (j 0).val + (j 1).val) % 1536 * 224 + (j 2).val % 224) * 224 + (j 3).val % 224
        = (((j 0).val * 192 + (j 1).val) * 224 + (j 2).val) * 224 + (j 3).val
      omega)]
  unfold outVal
  show planeVal (packArr I) (rowOf _ ((192 * (j 0).val + (j 1).val) % 1536)) ((j 2).val % 224) ((j 3).val % 224) = _
  rw [Nat.mod_eq_of_lt h2, Nat.mod_eq_of_lt h3,
    planeVal_pack I hI _ _ _ h2 h3 (fun a => ⟨(![n / 224, n % 224] : Fin 2 → Nat) a % Cert.KernelIdeal.S224x224.size a, Nat.mod_lt _ (by revert a; decide)⟩) (by
      rw [← hn]
      show 224 * (n / 224 % 224) + n % 224 % 224 = n
      omega)]
  unfold rowOf
  refine shapeCast_apply _ _ _ _ ?_
  rw [Shape.rowMajor_val_three, Shape.rowMajor_val_four]
  show (((j 0).val % 8 * 192 + (j 1).val % 192) * 224 + n / 224 % 224) * 224 + n % 224 % 224
    = ((192 * (j 0).val + (j 1).val) % 1536 % 1536 * 224 + n / 224 % 224 % 224) * 224 + n % 224 % 224 % 224
  omega

end Cert.Proof.Gather

end
-- ==== Proof.lean ====
/-
  The certificate: the kernel gathers every plane of `x` by `idx`, as the reference does. The kernel's run is
  Proof/Launch.lean's `run_main`, stated for the idealized program's text over any floats; the printed program is the
  same text, so its frame is that run at the bit patterns. The reference's run is read off its list of host operations
  and its result is the kernel's by Proof/Plain.lean's `result_eq`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_idx_in_range
public import proofs.«01_k».proof.Proof.Launch
public import proofs.«01_k».proof.Proof.Plain

@[expose] public section

noncomputable section

namespace Cert.Proof

open Idealize.ShloMosaic Idealize.SL.Sem
open Cert.Kernel.Gen Cert.KernelIdeal.Gen Cert.ReferenceIdeal.Gen Cert.Pre_idx_in_range.Gen

/-- The printed kernel runs, its arguments unchanged and every semaphore at zero. -/
theorem frame_kernel : Cert.quiescent_Kernel := fun m ρ h =>
  (θ_run Cert.KernelIdeal.defs _ _).mono (fun _ h => ⟨fun c => ⟨(h.1 c).1, (h.1 c).2.1⟩, h.2⟩)
    (Gather.run_main (F := Bits) m ρ fun d => Gather.inRange_of_pre _ _ (h d))

/-- So does its idealization. -/
theorem frame_ideal : Cert.quiescent_KernelIdeal := fun m ρ h =>
  (θ_run Cert.KernelIdeal.defs _ _).mono (fun _ h => ⟨fun c => ⟨(h.1 c).1, (h.1 c).2.1⟩, h.2⟩)
    (Gather.run_main (F := Ideal) m ρ fun d => Gather.inRange_of_pre _ _ (h d))

/-- And the reference, which declares no semaphore. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- The kernel and the reference return the same array. -/
theorem equal_results : Cert.algebraic_KernelIdeal_ReferenceIdeal := fun m ρ m' ρ' hpre hagree => by
  have hI : Gather.PreOK m := fun d => Gather.inRange_of_pre _ _ (hpre d)
  refine ⟨fun c => Gather.resOf m c,
    (θ_run Cert.KernelIdeal.defs _ _).mono (fun _ h c => ⟨(h.1 c).2.2, (h.1 c).1, (h.1 c).2.1⟩) (Gather.run_main (F := Ideal) m ρ hI),
    (θ_run Cert.ReferenceIdeal.defs _ _).mono (fun _ h c => ⟨(h c).1.trans ?_, (h c).2⟩) (Cert.ReferenceIdeal.Value.run (F := Ideal) m' ρ')⟩
  rw [(hagree c).1, (hagree c).2]
  exact (Gather.result_eq _ (Gather.idxOf m c) (hI c)).symm

theorem claim : Cert.Claim := ⟨Cert.Kernel.Gen.facts, Cert.KernelIdeal.Gen.facts, Cert.ReferenceIdeal.Gen.facts, Cert.Pre_idx_in_range.Gen.facts,
  frame_kernel, frame_ideal, frame_reference, trivial, equal_results⟩

end Cert.Proof

end
